-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_affine_within_clip [hPre_affine_within_clip : Cert.Pre_affine_within_clip.Facts] (m : (ℓ : Loc Cert.KernelIdeal.nD Cert.KernelIdeal.τ Cert.KernelIdeal.sig) → Buf (Elt Ideal) ℓ) : Prop :=
  ∀ c : Dev Cert.KernelIdeal.nD,
    (Cert.Pre_affine_within_clip.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).1 = (fun _ => 1#1)
    ∧ (Cert.Pre_affine_within_clip.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.1 = (fun _ => 1#1)
    ∧ (Cert.Pre_affine_within_clip.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_affine_within_clip [hPre_affine_within_clip : Cert.Pre_affine_within_clip.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_affine_within_clip.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).1 = (fun _ => 1#1)
    ∧ (Cert.Pre_affine_within_clip.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.1 = (fun _ => 1#1)
    ∧ (Cert.Pre_affine_within_clip.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_affine_within_clip [hKernelIdeal : Cert.KernelIdeal.Facts] [hPre_affine_within_clip : Cert.Pre_affine_within_clip.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_affine_within_clip m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_affine_within_clip [hReferenceIdeal : Cert.ReferenceIdeal.Facts] [hPre_affine_within_clip : Cert.Pre_affine_within_clip.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_affine_within_clip m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  True

def algebraic_KernelIdeal_ReferenceIdeal_pre_affine_within_clip [hKernelIdeal : Cert.KernelIdeal.Facts] [hReferenceIdeal : Cert.ReferenceIdeal.Facts] [hPre_affine_within_clip : Cert.Pre_affine_within_clip.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_affine_within_clip m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v122_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v122_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v263) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_affine_within_clip : Cert.Pre_affine_within_clip.Facts),
    quiescent_Kernel (hKernel := hKernel)
    ∧ quiescent_KernelIdeal (hKernelIdeal := hKernelIdeal)
    ∧ quiescent_KernelIdeal_pre_affine_within_clip (hKernelIdeal := hKernelIdeal) (hPre_affine_within_clip := hPre_affine_within_clip)
    ∧ quiescent_ReferenceIdeal (hReferenceIdeal := hReferenceIdeal)
    ∧ quiescent_ReferenceIdeal_pre_affine_within_clip (hReferenceIdeal := hReferenceIdeal) (hPre_affine_within_clip := hPre_affine_within_clip)
    ∧ preserves_Kernel_KernelIdeal
    ∧ algebraic_KernelIdeal_ReferenceIdeal_pre_affine_within_clip (hKernelIdeal := hKernelIdeal) (hReferenceIdeal := hReferenceIdeal) (hPre_affine_within_clip := hPre_affine_within_clip)
-- ==== Pre_affine_within_clip.lean ====
abbrev S50000x2 : Shape := ⟨2, ![50000, 2]⟩
abbrev S2x800000 : Shape := ⟨2, ![2, 800000]⟩
abbrev S64x2 : Shape := ⟨2, ![64, 2]⟩
abbrev S64 : Shape := ⟨1, ![64]⟩
abbrev S64x64 : Shape := ⟨2, ![64, 64]⟩
abbrev S2x32 : Shape := ⟨2, ![2, 32]⟩
abbrev S_ : Shape := ⟨0, ![]⟩

class Facts : Prop where
  bcast_S_S64 : S_.BroadcastsInDim S64 (![] : Fin 0 → Fin S64.rank)

variable [Facts]

def fn_part1 {F : FTy → Type} [FloatOps F] (main_v6 : IVec S64 1) (main_v13 : IVec S64 1) (main_v18 : FVec F S64 .f32) : IVec S64 1 × IVec S64 1 × IVec S64 1 :=
  let main_cst_4 : FVec F S_ .f32 := constant S_ .f32 0x49742400#32
  let main_v19 : FVec F S64 .f32 := broadcastInDim S64 ![] bcast_S_S64 main_cst_4
  let main_v20 : IVec S64 1 := cmpf .ole main_v18 main_v19
  (main_v6, main_v13, main_v20)

def fn {F : FTy → Type} [FloatOps F] (main_arg0 : FVec F S50000x2 .f32) (main_arg1 : IVec S2x800000 32) (main_arg2 : FVec F S64x2 .f32) (main_arg3 : FVec F S64 .f32) (main_arg4 : FVec F S64x64 .f32) (main_arg5 : FVec F S64x64 .f32) (main_arg6 : FVec F S2x32 .f32) (main_arg7 : FVec F S64 .f32) (main_arg8 : FVec F S64 .f32) (main_arg9 : FVec F S64 .f32) (main_arg10 : FVec F S64x64 .f32) (main_arg11 : FVec F S64x64 .f32) (main_arg12 : FVec F S2x32 .f32) (main_arg13 : FVec F S64 .f32) (main_arg14 : FVec F S64 .f32) (main_arg15 : FVec F S64 .f32) (main_arg16 : FVec F S64x64 .f32) (main_arg17 : FVec F S64x64 .f32) (main_arg18 : FVec F S2x32 .f32) (main_arg19 : FVec F S64 .f32) (main_arg20 : FVec F S64 .f32) (main_arg21 : FVec F S64 .f32) : IVec S64 1 × IVec S64 1 × IVec S64 1 :=
  let main_v0 : FVec F S64 .f32 := Host.absf main_arg8
  let main_cst : FVec F S_ .f32 := constant S_ .f32 0x41000000#32
  let main_v1 : FVec F S64 .f32 := broadcastInDim S64 ![] bcast_S_S64 main_cst
  let main_v2 : FVec F S64 .f32 := mulf main_v1 main_v0
  let main_v3 : FVec F S64 .f32 := Host.absf main_arg9
  let main_v4 : FVec F S64 .f32 := addf main_v2 main_v3
  let main_cst_0 : FVec F S_ .f32 := constant S_ .f32 0x49742400#32
  let main_v5 : FVec F S64 .f32 := broadcastInDim S64 ![] bcast_S_S64 main_cst_0
  let main_v6 : IVec S64 1 := cmpf .ole main_v4 main_v5
  let main_v7 : FVec F S64 .f32 := Host.absf main_arg14
  let main_cst_1 : FVec F S_ .f32 := constant S_ .f32 0x41000000#32
  let main_v8 : FVec F S64 .f32 := broadcastInDim S64 ![] bcast_S_S64 main_cst_1
  let main_v9 : FVec F S64 .f32 := mulf main_v8 main_v7
  let main_v10 : FVec F S64 .f32 := Host.absf main_arg15
  let main_v11 : FVec F S64 .f32 := addf main_v9 main_v10
  let main_cst_2 : FVec F S_ .f32 := constant S_ .f32 0x49742400#32
  let main_v12 : FVec F S64 .f32 := broadcastInDim S64 ![] bcast_S_S64 main_cst_2
  let main_v13 : IVec S64 1 := cmpf .ole main_v11 main_v12
  let main_v14 : FVec F S64 .f32 := Host.absf main_arg20
  let main_cst_3 : FVec F S_ .f32 := constant S_ .f32 0x41000000#32
  let main_v15 : FVec F S64 .f32 := broadcastInDim S64 ![] bcast_S_S64 main_cst_3
  let main_v16 : FVec F S64 .f32 := mulf main_v15 main_v14
  let main_v17 : FVec F S64 .f32 := Host.absf main_arg21
  let main_v18 : FVec F S64 .f32 := addf main_v16 main_v17
  fn_part1 (F := F) main_v6 main_v13 main_v18
-- ==== Kernel.lean ====
abbrev S50000x2 : Shape := ⟨2, ![50000, 2]⟩
abbrev S2x800000 : Shape := ⟨2, ![2, 800000]⟩
abbrev S64x2 : Shape := ⟨2, ![64, 2]⟩
abbrev S64 : Shape := ⟨1, ![64]⟩
abbrev S64x64 : Shape := ⟨2, ![64, 64]⟩
abbrev S2x32 : Shape := ⟨2, ![2, 32]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S2x64 : Shape := ⟨2, ![2, 64]⟩
abbrev S50000x64 : Shape := ⟨2, ![50000, 64]⟩
abbrev S1000x2 : Shape := ⟨2, ![1000, 2]⟩
abbrev S1000x64 : Shape := ⟨2, ![1000, 64]⟩
abbrev S1x64 : Shape := ⟨2, ![1, 64]⟩
abbrev S50000x2x32 : Shape := ⟨3, ![50000, 2, 32]⟩
abbrev S_ : Shape := ⟨0, ![]⟩
abbrev S850000x1 : Shape := ⟨2, ![850000, 1]⟩
abbrev S850000x2x32 : Shape := ⟨3, ![850000, 2, 32]⟩
abbrev S1x2x32 : Shape := ⟨3, ![1, 2, 32]⟩
abbrev S850000x2 : Shape := ⟨2, ![850000, 2]⟩
abbrev S850000x2x1 : Shape := ⟨3, ![850000, 2, 1]⟩
abbrev S850000x64 : Shape := ⟨2, ![850000, 64]⟩
abbrev S850000x66 : Shape := ⟨2, ![850000, 66]⟩
abbrev S50000x66 : Shape := ⟨2, ![50000, 66]⟩
abbrev S1000x66 : Shape := ⟨2, ![1000, 66]⟩
abbrev S1000x1 : Shape := ⟨2, ![1000, 1]⟩
abbrev S1000x32 : Shape := ⟨2, ![1000, 32]⟩
abbrev S1000 : Shape := ⟨1, ![1000]⟩

abbrev nBuf : Space → Nat
  | .hbm => 194
  | .vmem => 57
  | .smem => 0
  | _ => 0

abbrev hbmTy0_0 (i : Nat) : BufTy := match i % 128 with
  | 0 => ⟨S50000x2, .f32⟩
  | 1 => ⟨S2x800000, .i32⟩
  | 2 => ⟨S64x2, .f32⟩
  | 3 => ⟨S64, .f32⟩
  | 4 => ⟨S64x64, .f32⟩
  | 5 => ⟨S64x64, .f32⟩
  | 6 => ⟨S2x32, .f32⟩
  | 7 => ⟨S64, .f32⟩
  | 8 => ⟨S64, .f32⟩
  | 9 => ⟨S64, .f32⟩
  | 10 => ⟨S64x64, .f32⟩
  | 11 => ⟨S64x64, .f32⟩
  | 12 => ⟨S2x32, .f32⟩
  | 13 => ⟨S64, .f32⟩
  | 14 => ⟨S64, .f32⟩
  | 15 => ⟨S64, .f32⟩
  | 16 => ⟨S64x64, .f32⟩
  | 17 => ⟨S64x64, .f32⟩
  | 18 => ⟨S2x32, .f32⟩
  | 19 => ⟨S64, .f32⟩
  | 20 => ⟨S64, .f32⟩
  | 21 => ⟨S64, .f32⟩
  | 22 => ⟨S50000, .i32⟩
  | 23 => ⟨S1x800000, .i32⟩
  | 24 => ⟨S800000, .i32⟩
  | 25 => ⟨S850000, .i32⟩
  | 26 => ⟨S1x800000, .i32⟩
  | 27 => ⟨S800000, .i32⟩
  | 28 => ⟨S850000, .i32⟩
  | 29 => ⟨S2x64, .f32⟩
  | 30 => ⟨S64x64, .f32⟩
  | 31 => ⟨S64x64, .f32⟩
  | 32 => ⟨S50000x64, .f32⟩
  | 33 => ⟨S50000x64, .f32⟩
  | 34 => ⟨S50000x64, .f32⟩
  | 35 => ⟨S50000x2x32, .f32⟩
  | 36 => ⟨S50000x2x32, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000x2x32, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000x2x32, .f32⟩
  | 55 => ⟨S850000x2x32, .f32⟩
  | 56 => ⟨S_, .f32⟩
  | 57 => ⟨S_, .f32⟩
  | 58 => ⟨S850000x2x32, .f32⟩
  | 59 => ⟨S850000x2x32, .i1⟩
  | 60 => ⟨S_, .f32⟩
  | 61 => ⟨S850000x2x32, .f32⟩
  | 62 => ⟨S850000x2x32, .f32⟩
  | 63 => ⟨S850000x2x32, .f32⟩
  | 64 => ⟨S1x2x32, .f32⟩
  | 65 => ⟨S850000x2x32, .f32⟩
  | 66 => ⟨S850000x2x32, .f32⟩
  | 67 => ⟨S_, .f32⟩
  | 68 => ⟨S850000x2, .f32⟩
  | 69 => ⟨S850000x2, .f32⟩
  | 70 => ⟨S850000x2x1, .f32⟩
  | 71 => ⟨S850000x2x32, .f32⟩
  | 72 => ⟨S850000x2x32, .f32⟩
  | 73 => ⟨S850000x64, .f32⟩
  | 74 => ⟨S850000x66, .f32⟩
  | 75 => ⟨S_, .f32⟩
  | 76 => ⟨S50000x66, .f32⟩
  | 77 => ⟨S850000x1, .i32⟩
  | 78 => ⟨S50000x66, .f32⟩
  | 79 => ⟨S64x64, .f32⟩
  | 80 => ⟨S64x64, .f32⟩
  | 81 => ⟨S50000x64, .f32⟩
  | 82 => ⟨S50000x64, .f32⟩
  | 83 => ⟨S50000x64, .f32⟩
  | 84 => ⟨S50000x2x32, .f32⟩
  | 85 => ⟨S50000x2x32, .f32⟩
  | 86 => ⟨S_, .i32⟩
  | 87 => ⟨S850000, .i32⟩
  | 88 => ⟨S850000, .i1⟩
  | 89 => ⟨S_, .i32⟩
  | 90 => ⟨S850000, .i32⟩
  | 91 => ⟨S850000, .i32⟩
  | 92 => ⟨S850000, .i32⟩
  | 93 => ⟨S850000x1, .i32⟩
  | 94 => ⟨S850000x2x32, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000x2x32, .f32⟩
  | 104 => ⟨S850000x2x32, .f32⟩
  | 105 => ⟨S_, .f32⟩
  | 106 => ⟨S_, .f32⟩
  | 107 => ⟨S850000x2x32, .f32⟩
  | 108 => ⟨S850000x2x32, .i1⟩
  | 109 => ⟨S_, .f32⟩
  | 110 => ⟨S850000x2x32, .f32⟩
  | 111 => ⟨S850000x2x32, .f32⟩
  | 112 => ⟨S850000x2x32, .f32⟩
  | 113 => ⟨S1x2x32, .f32⟩
  | 114 => ⟨S850000x2x32, .f32⟩
  | 115 => ⟨S850000x2x32, .f32⟩
  | 116 => ⟨S_, .f32⟩
  | 117 => ⟨S850000x2, .f32⟩
  | 118 => ⟨S850000x2, .f32⟩
  | 119 => ⟨S850000x2x1, .f32⟩
  | 120 => ⟨S850000x2x32, .f32⟩
  | 121 => ⟨S850000x2x32, .f32⟩
  | 122 => ⟨S850000x64, .f32⟩
  | 123 => ⟨S850000x66, .f32⟩
  | 124 => ⟨S_, .f32⟩
  | 125 => ⟨S50000x66, .f32⟩
  | 126 => ⟨S850000x1, .i32⟩
  | 127 => ⟨S50000x66, .f32⟩
  | _ => ⟨S50000x2, .f32⟩

abbrev hbmTy0_1 (i : Nat) : BufTy := match i % 128 with
  | 0 => ⟨S64x64, .f32⟩
  | 1 => ⟨S64x64, .f32⟩
  | 2 => ⟨S50000x64, .f32⟩
  | 3 => ⟨S50000x64, .f32⟩
  | 4 => ⟨S50000x64, .f32⟩
  | 5 => ⟨S50000x2x32, .f32⟩
  | 6 => ⟨S50000x2x32, .f32⟩
  | 7 => ⟨S_, .i32⟩
  | 8 => ⟨S850000, .i32⟩
  | 9 => ⟨S850000, .i1⟩
  | 10 => ⟨S_, .i32⟩
  | 11 => ⟨S850000, .i32⟩
  | 12 => ⟨S850000, .i32⟩
  | 13 => ⟨S850000, .i32⟩
  | 14 => ⟨S850000x1, .i32⟩
  | 15 => ⟨S850000x2x32, .f32⟩
  | 16 => ⟨S_, .i32⟩
  | 17 => ⟨S850000, .i32⟩
  | 18 => ⟨S850000, .i1⟩
  | 19 => ⟨S_, .i32⟩
  | 20 => ⟨S850000, .i32⟩
  | 21 => ⟨S850000, .i32⟩
  | 22 => ⟨S850000, .i32⟩
  | 23 => ⟨S850000x1, .i32⟩
  | 24 => ⟨S850000x2x32, .f32⟩
  | 25 => ⟨S850000x2x32, .f32⟩
  | 26 => ⟨S_, .f32⟩
  | 27 => ⟨S_, .f32⟩
  | 28 => ⟨S850000x2x32, .f32⟩
  | 29 => ⟨S850000x2x32, .i1⟩
  | 30 => ⟨S_, .f32⟩
  | 31 => ⟨S850000x2x32, .f32⟩
  | 32 => ⟨S850000x2x32, .f32⟩
  | 33 => ⟨S850000x2x32, .f32⟩
  | 34 => ⟨S1x2x32, .f32⟩
  | 35 => ⟨S850000x2x32, .f32⟩
  | 36 => ⟨S850000x2x32, .f32⟩
  | 37 => ⟨S_, .f32⟩
  | 38 => ⟨S850000x2, .f32⟩
  | 39 => ⟨S850000x2, .f32⟩
  | 40 => ⟨S850000x2x1, .f32⟩
  | 41 => ⟨S850000x2x32, .f32⟩
  | 42 => ⟨S850000x2x32, .f32⟩
  | 43 => ⟨S850000x64, .f32⟩
  | 44 => ⟨S850000x66, .f32⟩
  | 45 => ⟨S_, .f32⟩
  | 46 => ⟨S50000x66, .f32⟩
  | 47 => ⟨S850000x1, .i32⟩
  | 48 => ⟨S50000x66, .f32⟩
  | 49 => ⟨S64x64, .i32⟩
  | 50 => ⟨S64x64, .i32⟩
  | 51 => ⟨S_, .i32⟩
  | 52 => ⟨S64x64, .i32⟩
  | 53 => ⟨S64x64, .i32⟩
  | 54 => ⟨S64x64, .i1⟩
  | 55 => ⟨S64x64, .f32⟩
  | 56 => ⟨S64x64, .i32⟩
  | 57 => ⟨S64x64, .i32⟩
  | 58 => ⟨S_, .i32⟩
  | 59 => ⟨S64x64, .i32⟩
  | 60 => ⟨S64x64, .i32⟩
  | 61 => ⟨S64x64, .i1⟩
  | 62 => ⟨S64x64, .f32⟩
  | 63 => ⟨S50000x64, .f32⟩
  | 64 => ⟨S50000x64, .f32⟩
  | 65 => ⟨S50000x64, .f32⟩
  | _ => ⟨S50000x2, .f32⟩

abbrev hbmTy (i : Nat) : BufTy := match i / 128 with
  | 0 => hbmTy0_0 i
  | 1 => hbmTy0_1 i
  | _ => ⟨S50000x2, .f32⟩

abbrev bufTy : (tb : Table) → Fin (tcTables nBuf tb) → BufTy
  | .hbm, ⟨i, _⟩ => hbmTy i
  | .local _ .vmem, ⟨0, _⟩ => ⟨S1000x2, .f32⟩
  | .local _ .vmem, ⟨1, _⟩ => ⟨S1000x2, .f32⟩
  | .local _ .vmem, ⟨2, _⟩ => ⟨S2x64, .f32⟩
  | .local _ .vmem, ⟨3, _⟩ => ⟨S64, .f32⟩
  | .local _ .vmem, ⟨4, _⟩ => ⟨S64x64, .f32⟩
  | .local _ .vmem, ⟨5, _⟩ => ⟨S64x64, .f32⟩
  | .local _ .vmem, ⟨6, _⟩ => ⟨S1000x64, .f32⟩
  | .local _ .vmem, ⟨7, _⟩ => ⟨S1000x64, .f32⟩
  | .local _ .vmem, ⟨8, _⟩ => ⟨S1000x64, .f32⟩
  | .local _ .vmem, ⟨9, _⟩ => ⟨S1000x64, .f32⟩
  | .local _ .vmem, ⟨10, _⟩ => ⟨S1000x64, .f32⟩
  | .local _ .vmem, ⟨11, _⟩ => ⟨S1000x64, .f32⟩
  | .local _ .vmem, ⟨12, _⟩ => ⟨S1000x66, .f32⟩
  | .local _ .vmem, ⟨13, _⟩ => ⟨S1000x66, .f32⟩
  | .local _ .vmem, ⟨14, _⟩ => ⟨S64, .f32⟩
  | .local _ .vmem, ⟨15, _⟩ => ⟨S1000x64, .f32⟩
  | .local _ .vmem, ⟨16, _⟩ => ⟨S1000x64, .f32⟩
  | .local _ .vmem, ⟨17, _⟩ => ⟨S64, .f32⟩
  | .local _ .vmem, ⟨18, _⟩ => ⟨S64, .f32⟩
  | .local _ .vmem, ⟨19, _⟩ => ⟨S64x64, .f32⟩
  | .local _ .vmem, ⟨20, _⟩ => ⟨S64x64, .f32⟩
  | .local _ .vmem, ⟨21, _⟩ => ⟨S1000x64, .f32⟩
  | .local _ .vmem, ⟨22, _⟩ => ⟨S1000x64, .f32⟩
  | .local _ .vmem, ⟨23, _⟩ => ⟨S1000x64, .f32⟩
  | .local _ .vmem, ⟨24, _⟩ => ⟨S1000x64, .f32⟩
  | .local _ .vmem, ⟨25, _⟩ => ⟨S1000x64, .f32⟩
  | .local _ .vmem, ⟨26, _⟩ => ⟨S1000x64, .f32⟩
  | .local _ .vmem, ⟨27, _⟩ => ⟨S1000x66, .f32⟩
  | .local _ .vmem, ⟨28, _⟩ => ⟨S1000x66, .f32⟩
  | .local _ .vmem, ⟨29, _⟩ => ⟨S64, .f32⟩
  | .local _ .vmem, ⟨30, _⟩ => ⟨S1000x64, .f32⟩
  | .local _ .vmem, ⟨31, _⟩ => ⟨S1000x64, .f32⟩
  | .local _ .vmem, ⟨32, _⟩ => ⟨S64, .f32⟩
  | .local _ .vmem, ⟨33, _⟩ => ⟨S64, .f32⟩
  | .local _ .vmem, ⟨34, _⟩ => ⟨S64x64, .f32⟩
  | .local _ .vmem, ⟨35, _⟩ => ⟨S64x64, .f32⟩
  | .local _ .vmem, ⟨36, _⟩ => ⟨S1000x64, .f32⟩
  | .local _ .vmem, ⟨37, _⟩ => ⟨S1000x64, .f32⟩
  | .local _ .vmem, ⟨38, _⟩ => ⟨S1000x64, .f32⟩
  | .local _ .vmem, ⟨39, _⟩ => ⟨S1000x64, .f32⟩
  | .local _ .vmem, ⟨40, _⟩ => ⟨S1000x64, .f32⟩
  | .local _ .vmem, ⟨41, _⟩ => ⟨S1000x64, .f32⟩
  | .local _ .vmem, ⟨42, _⟩ => ⟨S1000x66, .f32⟩
  | .local _ .vmem, ⟨43, _⟩ => ⟨S1000x66, .f32⟩
  | .local _ .vmem, ⟨44, _⟩ => ⟨S64, .f32⟩
  | .local _ .vmem, ⟨45, _⟩ => ⟨S1000x64, .f32⟩
  | .local _ .vmem, ⟨46, _⟩ => ⟨S1000x64, .f32⟩
  | .local _ .vmem, ⟨47, _⟩ => ⟨S64, .f32⟩
  | .local _ .vmem, ⟨48, _⟩ => ⟨S64, .f32⟩
  | .local _ .vmem, ⟨49, _⟩ => ⟨S64x64, .f32⟩
  | .local _ .vmem, ⟨50, _⟩ => ⟨S64x64, .f32⟩
  | .local _ .vmem, ⟨51, _⟩ => ⟨S1000x64, .f32⟩
  | .local _ .vmem, ⟨52, _⟩ => ⟨S1000x64, .f32⟩
  | .local _ .vmem, ⟨53, _⟩ => ⟨S1000x64, .f32⟩
  | .local _ .vmem, ⟨54, _⟩ => ⟨S1000x64, .f32⟩
  | .local _ .vmem, ⟨55, _⟩ => ⟨S1000x64, .f32⟩
  | .local _ .vmem, ⟨56, _⟩ => ⟨S1000x64, .f32⟩
  | _, _ => ⟨S50000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10_0 : Ref sig .tc := ⟨.hbm, 32, rfl⟩
abbrev main_v10_1 : Ref sig .tc := ⟨.hbm, 33, rfl⟩
abbrev main_v10_2 : Ref sig .tc := ⟨.hbm, 34, rfl⟩
abbrev main_v11 : Ref sig .tc := ⟨.hbm, 35, rfl⟩
abbrev main_v12 : Ref sig .tc := ⟨.hbm, 36, rfl⟩
abbrev main_c : Ref sig .tc := ⟨.hbm, 37, rfl⟩
abbrev main_v13 : Ref sig .tc := ⟨.hbm, 38, rfl⟩
abbrev main_v14 : Ref sig .tc := ⟨.hbm, 39, rfl⟩
abbrev main_c_0 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_c_1 : Ref sig .tc := ⟨.hbm, 46, rfl⟩
abbrev main_v20 : Ref sig .tc := ⟨.hbm, 47, rfl⟩
abbrev main_v21 : Ref sig .tc := ⟨.hbm, 48, rfl⟩
abbrev main_c_2 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst : Ref sig .tc := ⟨.hbm, 56, rfl⟩
abbrev main_call0_cst : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst_3 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_cst_4 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44_0 : Ref sig .tc := ⟨.hbm, 81, rfl⟩
abbrev main_v44_1 : Ref sig .tc := ⟨.hbm, 82, rfl⟩
abbrev main_v44_2 : Ref sig .tc := ⟨.hbm, 83, rfl⟩
abbrev main_v45 : Ref sig .tc := ⟨.hbm, 84, rfl⟩
abbrev main_v46 : Ref sig .tc := ⟨.hbm, 85, rfl⟩
abbrev main_c_5 : Ref sig .tc := ⟨.hbm, 86, rfl⟩
abbrev main_v47 : Ref sig .tc := ⟨.hbm, 87, rfl⟩
abbrev main_v48 : Ref sig .tc := ⟨.hbm, 88, rfl⟩
abbrev main_c_6 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_c_7 : Ref sig .tc := ⟨.hbm, 95, rfl⟩
abbrev main_v54 : Ref sig .tc := ⟨.hbm, 96, rfl⟩
abbrev main_v55 : Ref sig .tc := ⟨.hbm, 97, rfl⟩
abbrev main_c_8 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_cst_9 : Ref sig .tc := ⟨.hbm, 105, rfl⟩
abbrev main_call1_cst : Ref sig .tc := ⟨.hbm, 106, rfl⟩
abbrev main_call1_v0 : Ref sig .tc := ⟨.hbm, 107, rfl⟩
abbrev main_call1_v1 : Ref sig .tc := ⟨.hbm, 108, rfl⟩
abbrev main_call1_v2 : Ref sig .tc := ⟨.hbm, 109, rfl⟩
abbrev main_call1_v3 : Ref sig .tc := ⟨.hbm, 110, rfl⟩
abbrev main_call1_v4 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_cst_10 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_cst_11 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78_0 : Ref sig .tc := ⟨.hbm, 130, rfl⟩
abbrev main_v78_1 : Ref sig .tc := ⟨.hbm, 131, rfl⟩
abbrev main_v78_2 : Ref sig .tc := ⟨.hbm, 132, rfl⟩
abbrev main_v79 : Ref sig .tc := ⟨.hbm, 133, rfl⟩
abbrev main_v80 : Ref sig .tc := ⟨.hbm, 134, rfl⟩
abbrev main_c_12 : Ref sig .tc := ⟨.hbm, 135, rfl⟩
abbrev main_v81 : Ref sig .tc := ⟨.hbm, 136, rfl⟩
abbrev main_v82 : Ref sig .tc := ⟨.hbm, 137, rfl⟩
abbrev main_c_13 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_c_14 : Ref sig .tc := ⟨.hbm, 144, rfl⟩
abbrev main_v88 : Ref sig .tc := ⟨.hbm, 145, rfl⟩
abbrev main_v89 : Ref sig .tc := ⟨.hbm, 146, rfl⟩
abbrev main_c_15 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_cst_16 : Ref sig .tc := ⟨.hbm, 154, rfl⟩
abbrev main_call2_cst : Ref sig .tc := ⟨.hbm, 155, rfl⟩
abbrev main_call2_v0 : Ref sig .tc := ⟨.hbm, 156, rfl⟩
abbrev main_call2_v1 : Ref sig .tc := ⟨.hbm, 157, rfl⟩
abbrev main_call2_v2 : Ref sig .tc := ⟨.hbm, 158, rfl⟩
abbrev main_call2_v3 : Ref sig .tc := ⟨.hbm, 159, rfl⟩
abbrev main_call2_v4 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_cst_17 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_cst_18 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_c_19 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_c_20 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_v122_0 : Ref sig .tc := ⟨.hbm, 191, rfl⟩
abbrev main_v122_1 : Ref sig .tc := ⟨.hbm, 192, rfl⟩
abbrev main_v122_2 : Ref sig .tc := ⟨.hbm, 193, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg8_1 : Ref sig .tc := ⟨.vmem, 24, rfl⟩
abbrev cc1_stg9_0 : Ref sig .tc := ⟨.vmem, 25, rfl⟩
abbrev cc1_stg9_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg7_0 : Ref sig .tc := ⟨.vmem, 36, rfl⟩
abbrev cc2_stg7_1 : Ref sig .tc := ⟨.vmem, 37, rfl⟩
abbrev cc2_stg8_0 : Ref sig .tc := ⟨.vmem, 38, rfl⟩
abbrev cc2_stg8_1 : Ref sig .tc := ⟨.vmem, 39, rfl⟩
abbrev cc2_stg9_0 : Ref sig .tc := ⟨.vmem, 40, rfl⟩
abbrev cc2_stg9_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg2_0 : Ref sig .tc := ⟨.vmem, 45, rfl⟩
abbrev cc3_stg2_1 : Ref sig .tc := ⟨.vmem, 46, rfl⟩
abbrev cc3_stg3_0 : Ref sig .tc := ⟨.vmem, 47, rfl⟩
abbrev cc3_stg4_0 : Ref sig .tc := ⟨.vmem, 48, rfl⟩
abbrev cc3_stg5_0 : Ref sig .tc := ⟨.vmem, 49, rfl⟩
abbrev cc3_stg6_0 : Ref sig .tc := ⟨.vmem, 50, rfl⟩
abbrev cc3_stg7_0 : Ref sig .tc := ⟨.vmem, 51, rfl⟩
abbrev cc3_stg7_1 : Ref sig .tc := ⟨.vmem, 52, rfl⟩
abbrev cc3_stg8_0 : Ref sig .tc := ⟨.vmem, 53, rfl⟩
abbrev cc3_stg8_1 : Ref sig .tc := ⟨.vmem, 54, rfl⟩
abbrev cc3_stg9_0 : Ref sig .tc := ⟨.vmem, 55, rfl⟩
abbrev cc3_stg9_1 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22
abbrev cc1_sem8_0 : DmaSem sig := 23
abbrev cc1_sem8_1 : DmaSem sig := 24
abbrev cc1_sem9_0 : DmaSem sig := 25
abbrev cc1_sem9_1 : DmaSem sig := 26
abbrev cc2_sem0_0 : DmaSem sig := 27
abbrev cc2_sem0_1 : DmaSem sig := 28
abbrev cc2_sem1_0 : DmaSem sig := 29
abbrev cc2_sem2_0 : DmaSem sig := 30
abbrev cc2_sem2_1 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem7_0 : DmaSem sig := 36
abbrev cc2_sem7_1 : DmaSem sig := 37
abbrev cc2_sem8_0 : DmaSem sig := 38
abbrev cc2_sem8_1 : DmaSem sig := 39
abbrev cc2_sem9_0 : DmaSem sig := 40
abbrev cc2_sem9_1 : DmaSem sig := 41
abbrev cc3_sem0_0 : DmaSem sig := 42
abbrev cc3_sem0_1 : DmaSem sig := 43
abbrev cc3_sem1_0 : DmaSem sig := 44
abbrev cc3_sem2_0 : DmaSem sig := 45
abbrev cc3_sem2_1 : DmaSem sig := 46
abbrev cc3_sem3_0 : DmaSem sig := 47
abbrev cc3_sem4_0 : DmaSem sig := 48
abbrev cc3_sem5_0 : DmaSem sig := 49
abbrev cc3_sem6_0 : DmaSem sig := 50
abbrev cc3_sem7_0 : DmaSem sig := 51
abbrev cc3_sem7_1 : DmaSem sig := 52
abbrev cc3_sem8_0 : DmaSem sig := 53
abbrev cc3_sem8_1 : DmaSem sig := 54
abbrev cc3_sem9_0 : DmaSem sig := 55
abbrev cc3_sem9_1 : DmaSem sig := 56

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x66 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x66 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1000x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1000x64 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x66 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S1000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S1000x64 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S1000x64 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]
-- ==== ReferenceIdeal.lean ====
abbrev S50000x2 : Shape := ⟨2, ![50000, 2]⟩
abbrev S2x800000 : Shape := ⟨2, ![2, 800000]⟩
abbrev S64x2 : Shape := ⟨2, ![64, 2]⟩
abbrev S64 : Shape := ⟨1, ![64]⟩
abbrev S64x64 : Shape := ⟨2, ![64, 64]⟩
abbrev S2x32 : Shape := ⟨2, ![2, 32]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S2x64 : Shape := ⟨2, ![2, 64]⟩
abbrev S50000x64 : Shape := ⟨2, ![50000, 64]⟩
abbrev S1x64 : Shape := ⟨2, ![1, 64]⟩
abbrev S50000x2x32 : Shape := ⟨3, ![50000, 2, 32]⟩
abbrev S_ : Shape := ⟨0, ![]⟩
abbrev S850000x1 : Shape := ⟨2, ![850000, 1]⟩
abbrev S850000x2x32 : Shape := ⟨3, ![850000, 2, 32]⟩
abbrev S1x2x32 : Shape := ⟨3, ![1, 2, 32]⟩
abbrev S850000x2 : Shape := ⟨2, ![850000, 2]⟩
abbrev S850000x2x1 : Shape := ⟨3, ![850000, 2, 1]⟩
abbrev S50000x1 : Shape := ⟨2, ![50000, 1]⟩

abbrev nBuf : Space → Nat
  | .hbm => 454
  | .vmem => 0
  | .smem => 0
  | _ => 0

abbrev hbmTy0_0 (i : Nat) : BufTy := match i % 128 with
  | 0 => ⟨S50000x2, .f32⟩
  | 1 => ⟨S2x800000, .i32⟩
  | 2 => ⟨S64x2, .f32⟩
  | 3 => ⟨S64, .f32⟩
  | 4 => ⟨S64x64, .f32⟩
  | 5 => ⟨S64x64, .f32⟩
  | 6 => ⟨S2x32, .f32⟩
  | 7 => ⟨S64, .f32⟩
  | 8 => ⟨S64, .f32⟩
  | 9 => ⟨S64, .f32⟩
  | 10 => ⟨S64x64, .f32⟩
  | 11 => ⟨S64x64, .f32⟩
  | 12 => ⟨S2x32, .f32⟩
  | 13 => ⟨S64, .f32⟩
  | 14 => ⟨S64, .f32⟩
  | 15 => ⟨S64, .f32⟩
  | 16 => ⟨S64x64, .f32⟩
  | 17 => ⟨S64x64, .f32⟩
  | 18 => ⟨S2x32, .f32⟩
  | 19 => ⟨S64, .f32⟩
  | 20 => ⟨S64, .f32⟩
  | 21 => ⟨S64, .f32⟩
  | 22 => ⟨S50000, .i32⟩
  | 23 => ⟨S1x800000, .i32⟩
  | 24 => ⟨S800000, .i32⟩
  | 25 => ⟨S850000, .i32⟩
  | 26 => ⟨S1x800000, .i32⟩
  | 27 => ⟨S800000, .i32⟩
  | 28 => ⟨S850000, .i32⟩
  | 29 => ⟨S2x64, .f32⟩
  | 30 => ⟨S50000x64, .f32⟩
  | 31 => ⟨S1x64, .f32⟩
  | 32 => ⟨S50000x64, .f32⟩
  | 33 => ⟨S50000x64, .f32⟩
  | 34 => ⟨S64x64, .f32⟩
  | 35 => ⟨S50000x64, .f32⟩
  | 36 => ⟨S50000x2x32, .f32⟩
  | 37 => ⟨S64x64, .f32⟩
  | 38 => ⟨S50000x64, .f32⟩
  | 39 => ⟨S50000x2x32, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000x2x32, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x2x32, .f32⟩
  | 58 => ⟨S850000x2x32, .f32⟩
  | 59 => ⟨S_, .f32⟩
  | 60 => ⟨S_, .f32⟩
  | 61 => ⟨S850000x2x32, .f32⟩
  | 62 => ⟨S850000x2x32, .i1⟩
  | 63 => ⟨S_, .f32⟩
  | 64 => ⟨S850000x2x32, .f32⟩
  | 65 => ⟨S850000x2x32, .f32⟩
  | 66 => ⟨S850000x2x32, .f32⟩
  | 67 => ⟨S1x2x32, .f32⟩
  | 68 => ⟨S850000x2x32, .f32⟩
  | 69 => ⟨S850000x2x32, .f32⟩
  | 70 => ⟨S_, .f32⟩
  | 71 => ⟨S850000x2, .f32⟩
  | 72 => ⟨S850000x2, .f32⟩
  | 73 => ⟨S_, .f32⟩
  | 74 => ⟨S50000x2, .f32⟩
  | 75 => ⟨S850000x1, .i32⟩
  | 76 => ⟨S50000x2, .f32⟩
  | 77 => ⟨S_, .i32⟩
  | 78 => ⟨S850000, .i32⟩
  | 79 => ⟨S850000, .i1⟩
  | 80 => ⟨S_, .i32⟩
  | 81 => ⟨S850000, .i32⟩
  | 82 => ⟨S850000, .i32⟩
  | 83 => ⟨S850000, .i32⟩
  | 84 => ⟨S850000x1, .i32⟩
  | 85 => ⟨S850000x2, .f32⟩
  | 86 => ⟨S_, .f32⟩
  | 87 => ⟨S850000x2, .f32⟩
  | 88 => ⟨S850000x2, .f32⟩
  | 89 => ⟨S850000x2, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000x2x32, .f32⟩
  | 99 => ⟨S850000x2x1, .f32⟩
  | 100 => ⟨S850000x2x32, .f32⟩
  | 101 => ⟨S850000x2x32, .f32⟩
  | 102 => ⟨S_, .f32⟩
  | 103 => ⟨S50000x2x32, .f32⟩
  | 104 => ⟨S850000x1, .i32⟩
  | 105 => ⟨S50000x2x32, .f32⟩
  | 106 => ⟨S50000x64, .f32⟩
  | 107 => ⟨S1x64, .f32⟩
  | 108 => ⟨S50000x64, .f32⟩
  | 109 => ⟨S50000x64, .f32⟩
  | 110 => ⟨S_, .f32⟩
  | 111 => ⟨S50000x64, .f32⟩
  | 112 => ⟨S50000x64, .i1⟩
  | 113 => ⟨S_, .f32⟩
  | 114 => ⟨S50000x64, .f32⟩
  | 115 => ⟨S50000x64, .i1⟩
  | 116 => ⟨S_, .f32⟩
  | 117 => ⟨S_, .f32⟩
  | 118 => ⟨S50000x64, .f32⟩
  | 119 => ⟨S50000x64, .f32⟩
  | 120 => ⟨S50000x64, .f32⟩
  | 121 => ⟨S_, .f32⟩
  | 122 => ⟨S50000x64, .f32⟩
  | 123 => ⟨S50000x64, .f32⟩
  | 124 => ⟨S50000x64, .f32⟩
  | 125 => ⟨S50000x64, .f32⟩
  | 126 => ⟨S_, .f32⟩
  | 127 => ⟨S50000, .f32⟩
  | _ => ⟨S50000x2, .f32⟩

abbrev hbmTy0_1 (i : Nat) : BufTy := match i % 128 with
  | 0 => ⟨S50000x1, .f32⟩
  | 1 => ⟨S_, .f32⟩
  | 2 => ⟨S50000x1, .f32⟩
  | 3 => ⟨S50000x1, .f32⟩
  | 4 => ⟨S50000x64, .f32⟩
  | 5 => ⟨S50000x64, .f32⟩
  | 6 => ⟨S50000x64, .f32⟩
  | 7 => ⟨S_, .f32⟩
  | 8 => ⟨S50000, .f32⟩
  | 9 => ⟨S50000x1, .f32⟩
  | 10 => ⟨S_, .f32⟩
  | 11 => ⟨S50000x1, .f32⟩
  | 12 => ⟨S50000x1, .f32⟩
  | 13 => ⟨S50000x64, .f32⟩
  | 14 => ⟨S50000x64, .f32⟩
  | 15 => ⟨S_, .f32⟩
  | 16 => ⟨S50000x1, .f32⟩
  | 17 => ⟨S50000x1, .f32⟩
  | 18 => ⟨S50000x1, .f32⟩
  | 19 => ⟨S50000x64, .f32⟩
  | 20 => ⟨S50000x64, .f32⟩
  | 21 => ⟨S1x64, .f32⟩
  | 22 => ⟨S50000x64, .f32⟩
  | 23 => ⟨S50000x64, .f32⟩
  | 24 => ⟨S1x64, .f32⟩
  | 25 => ⟨S50000x64, .f32⟩
  | 26 => ⟨S50000x64, .f32⟩
  | 27 => ⟨S_, .f32⟩
  | 28 => ⟨S_, .f32⟩
  | 29 => ⟨S_, .f32⟩
  | 30 => ⟨S50000x64, .i1⟩
  | 31 => ⟨S_, .f32⟩
  | 32 => ⟨S50000x64, .f32⟩
  | 33 => ⟨S50000x64, .f32⟩
  | 34 => ⟨S_, .f32⟩
  | 35 => ⟨S50000x64, .f32⟩
  | 36 => ⟨S50000x64, .i1⟩
  | 37 => ⟨S_, .f32⟩
  | 38 => ⟨S50000x64, .f32⟩
  | 39 => ⟨S50000x64, .f32⟩
  | 40 => ⟨S_, .f32⟩
  | 41 => ⟨S50000x64, .f32⟩
  | 42 => ⟨S50000x64, .i1⟩
  | 43 => ⟨S_, .f32⟩
  | 44 => ⟨S50000x64, .f32⟩
  | 45 => ⟨S50000x64, .f32⟩
  | 46 => ⟨S64x64, .f32⟩
  | 47 => ⟨S50000x64, .f32⟩
  | 48 => ⟨S50000x2x32, .f32⟩
  | 49 => ⟨S64x64, .f32⟩
  | 50 => ⟨S50000x64, .f32⟩
  | 51 => ⟨S50000x2x32, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x2x32, .f32⟩
  | 61 => ⟨S_, .i32⟩
  | 62 => ⟨S850000, .i32⟩
  | 63 => ⟨S850000, .i1⟩
  | 64 => ⟨S_, .i32⟩
  | 65 => ⟨S850000, .i32⟩
  | 66 => ⟨S850000, .i32⟩
  | 67 => ⟨S850000, .i32⟩
  | 68 => ⟨S850000x1, .i32⟩
  | 69 => ⟨S850000x2x32, .f32⟩
  | 70 => ⟨S850000x2x32, .f32⟩
  | 71 => ⟨S_, .f32⟩
  | 72 => ⟨S_, .f32⟩
  | 73 => ⟨S850000x2x32, .f32⟩
  | 74 => ⟨S850000x2x32, .i1⟩
  | 75 => ⟨S_, .f32⟩
  | 76 => ⟨S850000x2x32, .f32⟩
  | 77 => ⟨S850000x2x32, .f32⟩
  | 78 => ⟨S850000x2x32, .f32⟩
  | 79 => ⟨S1x2x32, .f32⟩
  | 80 => ⟨S850000x2x32, .f32⟩
  | 81 => ⟨S850000x2x32, .f32⟩
  | 82 => ⟨S_, .f32⟩
  | 83 => ⟨S850000x2, .f32⟩
  | 84 => ⟨S850000x2, .f32⟩
  | 85 => ⟨S_, .f32⟩
  | 86 => ⟨S50000x2, .f32⟩
  | 87 => ⟨S850000x1, .i32⟩
  | 88 => ⟨S50000x2, .f32⟩
  | 89 => ⟨S_, .i32⟩
  | 90 => ⟨S850000, .i32⟩
  | 91 => ⟨S850000, .i1⟩
  | 92 => ⟨S_, .i32⟩
  | 93 => ⟨S850000, .i32⟩
  | 94 => ⟨S850000, .i32⟩
  | 95 => ⟨S850000, .i32⟩
  | 96 => ⟨S850000x1, .i32⟩
  | 97 => ⟨S850000x2, .f32⟩
  | 98 => ⟨S_, .f32⟩
  | 99 => ⟨S850000x2, .f32⟩
  | 100 => ⟨S850000x2, .f32⟩
  | 101 => ⟨S850000x2, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000x2x32, .f32⟩
  | 111 => ⟨S850000x2x1, .f32⟩
  | 112 => ⟨S850000x2x32, .f32⟩
  | 113 => ⟨S850000x2x32, .f32⟩
  | 114 => ⟨S_, .f32⟩
  | 115 => ⟨S50000x2x32, .f32⟩
  | 116 => ⟨S850000x1, .i32⟩
  | 117 => ⟨S50000x2x32, .f32⟩
  | 118 => ⟨S50000x64, .f32⟩
  | 119 => ⟨S1x64, .f32⟩
  | 120 => ⟨S50000x64, .f32⟩
  | 121 => ⟨S50000x64, .f32⟩
  | 122 => ⟨S_, .f32⟩
  | 123 => ⟨S50000x64, .f32⟩
  | 124 => ⟨S50000x64, .i1⟩
  | 125 => ⟨S_, .f32⟩
  | 126 => ⟨S50000x64, .f32⟩
  | 127 => ⟨S50000x64, .i1⟩
  | _ => ⟨S50000x2, .f32⟩

abbrev hbmTy0_2 (i : Nat) : BufTy := match i % 128 with
  | 0 => ⟨S_, .f32⟩
  | 1 => ⟨S_, .f32⟩
  | 2 => ⟨S50000x64, .f32⟩
  | 3 => ⟨S50000x64, .f32⟩
  | 4 => ⟨S50000x64, .f32⟩
  | 5 => ⟨S_, .f32⟩
  | 6 => ⟨S50000x64, .f32⟩
  | 7 => ⟨S50000x64, .f32⟩
  | 8 => ⟨S50000x64, .f32⟩
  | 9 => ⟨S50000x64, .f32⟩
  | 10 => ⟨S_, .f32⟩
  | 11 => ⟨S50000, .f32⟩
  | 12 => ⟨S50000x1, .f32⟩
  | 13 => ⟨S_, .f32⟩
  | 14 => ⟨S50000x1, .f32⟩
  | 15 => ⟨S50000x1, .f32⟩
  | 16 => ⟨S50000x64, .f32⟩
  | 17 => ⟨S50000x64, .f32⟩
  | 18 => ⟨S50000x64, .f32⟩
  | 19 => ⟨S_, .f32⟩
  | 20 => ⟨S50000, .f32⟩
  | 21 => ⟨S50000x1, .f32⟩
  | 22 => ⟨S_, .f32⟩
  | 23 => ⟨S50000x1, .f32⟩
  | 24 => ⟨S50000x1, .f32⟩
  | 25 => ⟨S50000x64, .f32⟩
  | 26 => ⟨S50000x64, .f32⟩
  | 27 => ⟨S_, .f32⟩
  | 28 => ⟨S50000x1, .f32⟩
  | 29 => ⟨S50000x1, .f32⟩
  | 30 => ⟨S50000x1, .f32⟩
  | 31 => ⟨S50000x64, .f32⟩
  | 32 => ⟨S50000x64, .f32⟩
  | 33 => ⟨S1x64, .f32⟩
  | 34 => ⟨S50000x64, .f32⟩
  | 35 => ⟨S50000x64, .f32⟩
  | 36 => ⟨S1x64, .f32⟩
  | 37 => ⟨S50000x64, .f32⟩
  | 38 => ⟨S50000x64, .f32⟩
  | 39 => ⟨S_, .f32⟩
  | 40 => ⟨S_, .f32⟩
  | 41 => ⟨S_, .f32⟩
  | 42 => ⟨S50000x64, .i1⟩
  | 43 => ⟨S_, .f32⟩
  | 44 => ⟨S50000x64, .f32⟩
  | 45 => ⟨S50000x64, .f32⟩
  | 46 => ⟨S_, .f32⟩
  | 47 => ⟨S50000x64, .f32⟩
  | 48 => ⟨S50000x64, .i1⟩
  | 49 => ⟨S_, .f32⟩
  | 50 => ⟨S50000x64, .f32⟩
  | 51 => ⟨S50000x64, .f32⟩
  | 52 => ⟨S_, .f32⟩
  | 53 => ⟨S50000x64, .f32⟩
  | 54 => ⟨S50000x64, .i1⟩
  | 55 => ⟨S_, .f32⟩
  | 56 => ⟨S50000x64, .f32⟩
  | 57 => ⟨S50000x64, .f32⟩
  | 58 => ⟨S64x64, .f32⟩
  | 59 => ⟨S50000x64, .f32⟩
  | 60 => ⟨S50000x2x32, .f32⟩
  | 61 => ⟨S64x64, .f32⟩
  | 62 => ⟨S50000x64, .f32⟩
  | 63 => ⟨S50000x2x32, .f32⟩
  | 64 => ⟨S_, .i32⟩
  | 65 => ⟨S850000, .i32⟩
  | 66 => ⟨S850000, .i1⟩
  | 67 => ⟨S_, .i32⟩
  | 68 => ⟨S850000, .i32⟩
  | 69 => ⟨S850000, .i32⟩
  | 70 => ⟨S850000, .i32⟩
  | 71 => ⟨S850000x1, .i32⟩
  | 72 => ⟨S850000x2x32, .f32⟩
  | 73 => ⟨S_, .i32⟩
  | 74 => ⟨S850000, .i32⟩
  | 75 => ⟨S850000, .i1⟩
  | 76 => ⟨S_, .i32⟩
  | 77 => ⟨S850000, .i32⟩
  | 78 => ⟨S850000, .i32⟩
  | 79 => ⟨S850000, .i32⟩
  | 80 => ⟨S850000x1, .i32⟩
  | 81 => ⟨S850000x2x32, .f32⟩
  | 82 => ⟨S850000x2x32, .f32⟩
  | 83 => ⟨S_, .f32⟩
  | 84 => ⟨S_, .f32⟩
  | 85 => ⟨S850000x2x32, .f32⟩
  | 86 => ⟨S850000x2x32, .i1⟩
  | 87 => ⟨S_, .f32⟩
  | 88 => ⟨S850000x2x32, .f32⟩
  | 89 => ⟨S850000x2x32, .f32⟩
  | 90 => ⟨S850000x2x32, .f32⟩
  | 91 => ⟨S1x2x32, .f32⟩
  | 92 => ⟨S850000x2x32, .f32⟩
  | 93 => ⟨S850000x2x32, .f32⟩
  | 94 => ⟨S_, .f32⟩
  | 95 => ⟨S850000x2, .f32⟩
  | 96 => ⟨S850000x2, .f32⟩
  | 97 => ⟨S_, .f32⟩
  | 98 => ⟨S50000x2, .f32⟩
  | 99 => ⟨S850000x1, .i32⟩
  | 100 => ⟨S50000x2, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000x2, .f32⟩
  | 110 => ⟨S_, .f32⟩
  | 111 => ⟨S850000x2, .f32⟩
  | 112 => ⟨S850000x2, .f32⟩
  | 113 => ⟨S850000x2, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S850000x2x32, .f32⟩
  | 123 => ⟨S850000x2x1, .f32⟩
  | 124 => ⟨S850000x2x32, .f32⟩
  | 125 => ⟨S850000x2x32, .f32⟩
  | 126 => ⟨S_, .f32⟩
  | 127 => ⟨S50000x2x32, .f32⟩
  | _ => ⟨S50000x2, .f32⟩

abbrev hbmTy0_3 (i : Nat) : BufTy := match i % 128 with
  | 0 => ⟨S850000x1, .i32⟩
  | 1 => ⟨S50000x2x32, .f32⟩
  | 2 => ⟨S50000x64, .f32⟩
  | 3 => ⟨S1x64, .f32⟩
  | 4 => ⟨S50000x64, .f32⟩
  | 5 => ⟨S50000x64, .f32⟩
  | 6 => ⟨S_, .f32⟩
  | 7 => ⟨S50000x64, .f32⟩
  | 8 => ⟨S50000x64, .i1⟩
  | 9 => ⟨S_, .f32⟩
  | 10 => ⟨S50000x64, .f32⟩
  | 11 => ⟨S50000x64, .i1⟩
  | 12 => ⟨S_, .f32⟩
  | 13 => ⟨S_, .f32⟩
  | 14 => ⟨S50000x64, .f32⟩
  | 15 => ⟨S50000x64, .f32⟩
  | 16 => ⟨S50000x64, .f32⟩
  | 17 => ⟨S_, .f32⟩
  | 18 => ⟨S50000x64, .f32⟩
  | 19 => ⟨S50000x64, .f32⟩
  | 20 => ⟨S50000x64, .f32⟩
  | 21 => ⟨S50000x64, .f32⟩
  | 22 => ⟨S_, .f32⟩
  | 23 => ⟨S50000, .f32⟩
  | 24 => ⟨S50000x1, .f32⟩
  | 25 => ⟨S_, .f32⟩
  | 26 => ⟨S50000x1, .f32⟩
  | 27 => ⟨S50000x1, .f32⟩
  | 28 => ⟨S50000x64, .f32⟩
  | 29 => ⟨S50000x64, .f32⟩
  | 30 => ⟨S50000x64, .f32⟩
  | 31 => ⟨S_, .f32⟩
  | 32 => ⟨S50000, .f32⟩
  | 33 => ⟨S50000x1, .f32⟩
  | 34 => ⟨S_, .f32⟩
  | 35 => ⟨S50000x1, .f32⟩
  | 36 => ⟨S50000x1, .f32⟩
  | 37 => ⟨S50000x64, .f32⟩
  | 38 => ⟨S50000x64, .f32⟩
  | 39 => ⟨S_, .f32⟩
  | 40 => ⟨S50000x1, .f32⟩
  | 41 => ⟨S50000x1, .f32⟩
  | 42 => ⟨S50000x1, .f32⟩
  | 43 => ⟨S50000x64, .f32⟩
  | 44 => ⟨S50000x64, .f32⟩
  | 45 => ⟨S1x64, .f32⟩
  | 46 => ⟨S50000x64, .f32⟩
  | 47 => ⟨S50000x64, .f32⟩
  | 48 => ⟨S1x64, .f32⟩
  | 49 => ⟨S50000x64, .f32⟩
  | 50 => ⟨S50000x64, .f32⟩
  | 51 => ⟨S_, .f32⟩
  | 52 => ⟨S_, .f32⟩
  | 53 => ⟨S_, .f32⟩
  | 54 => ⟨S50000x64, .i1⟩
  | 55 => ⟨S_, .f32⟩
  | 56 => ⟨S50000x64, .f32⟩
  | 57 => ⟨S50000x64, .f32⟩
  | 58 => ⟨S_, .f32⟩
  | 59 => ⟨S50000x64, .f32⟩
  | 60 => ⟨S50000x64, .i1⟩
  | 61 => ⟨S_, .f32⟩
  | 62 => ⟨S50000x64, .f32⟩
  | 63 => ⟨S50000x64, .f32⟩
  | 64 => ⟨S_, .f32⟩
  | 65 => ⟨S50000x64, .f32⟩
  | 66 => ⟨S50000x64, .i1⟩
  | 67 => ⟨S_, .f32⟩
  | 68 => ⟨S50000x64, .f32⟩
  | 69 => ⟨S50000x64, .f32⟩
  | _ => ⟨S50000x2, .f32⟩

abbrev hbmTy (i : Nat) : BufTy := match i / 128 with
  | 0 => hbmTy0_0 i
  | 1 => hbmTy0_1 i
  | 2 => hbmTy0_2 i
  | 3 => hbmTy0_3 i
  | _ => ⟨S50000x2, .f32⟩

abbrev bufTy : (tb : Table) → Fin (tcTables nBuf tb) → BufTy
  | .hbm, ⟨i, _⟩ => hbmTy i
  | _, _ => ⟨S50000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c : Ref sig .tc := ⟨.hbm, 40, rfl⟩
abbrev main_v18 : Ref sig .tc := ⟨.hbm, 41, rfl⟩
abbrev main_v19 : Ref sig .tc := ⟨.hbm, 42, rfl⟩
abbrev main_c_0 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c_1 : Ref sig .tc := ⟨.hbm, 49, rfl⟩
abbrev main_v25 : Ref sig .tc := ⟨.hbm, 50, rfl⟩
abbrev main_v26 : Ref sig .tc := ⟨.hbm, 51, rfl⟩
abbrev main_c_2 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst : Ref sig .tc := ⟨.hbm, 59, rfl⟩
abbrev main_call0_cst : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_3 : Ref sig .tc := ⟨.hbm, 70, rfl⟩
abbrev main_v37 : Ref sig .tc := ⟨.hbm, 71, rfl⟩
abbrev main_v38 : Ref sig .tc := ⟨.hbm, 72, rfl⟩
abbrev main_cst_4 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_c_5 : Ref sig .tc := ⟨.hbm, 77, rfl⟩
abbrev main_v42 : Ref sig .tc := ⟨.hbm, 78, rfl⟩
abbrev main_v43 : Ref sig .tc := ⟨.hbm, 79, rfl⟩
abbrev main_c_6 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_cst_7 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_c_8 : Ref sig .tc := ⟨.hbm, 90, rfl⟩
abbrev main_v52 : Ref sig .tc := ⟨.hbm, 91, rfl⟩
abbrev main_v53 : Ref sig .tc := ⟨.hbm, 92, rfl⟩
abbrev main_c_9 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_10 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_call1_cst : Ref sig .tc := ⟨.hbm, 110, rfl⟩
abbrev main_call1_v0 : Ref sig .tc := ⟨.hbm, 111, rfl⟩
abbrev main_call1_v1 : Ref sig .tc := ⟨.hbm, 112, rfl⟩
abbrev main_call1_cst_0 : Ref sig .tc := ⟨.hbm, 113, rfl⟩
abbrev main_call1_v2 : Ref sig .tc := ⟨.hbm, 114, rfl⟩
abbrev main_call1_v3 : Ref sig .tc := ⟨.hbm, 115, rfl⟩
abbrev main_call1_cst_1 : Ref sig .tc := ⟨.hbm, 116, rfl⟩
abbrev main_call1_call0_v0 : Ref sig .tc := ⟨.hbm, 117, rfl⟩
abbrev main_call1_call0_v1 : Ref sig .tc := ⟨.hbm, 118, rfl⟩
abbrev main_call1_v4 : Ref sig .tc := ⟨.hbm, 119, rfl⟩
abbrev main_call1_v5 : Ref sig .tc := ⟨.hbm, 120, rfl⟩
abbrev main_call1_cst_2 : Ref sig .tc := ⟨.hbm, 121, rfl⟩
abbrev main_call1_v6 : Ref sig .tc := ⟨.hbm, 122, rfl⟩
abbrev main_call1_v7 : Ref sig .tc := ⟨.hbm, 123, rfl⟩
abbrev main_v69 : Ref sig .tc := ⟨.hbm, 124, rfl⟩
abbrev main_v70 : Ref sig .tc := ⟨.hbm, 125, rfl⟩
abbrev main_cst_11 : Ref sig .tc := ⟨.hbm, 126, rfl⟩
abbrev main_v71 : Ref sig .tc := ⟨.hbm, 127, rfl⟩
abbrev main_v72 : Ref sig .tc := ⟨.hbm, 128, rfl⟩
abbrev main_cst_12 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_cst_13 : Ref sig .tc := ⟨.hbm, 135, rfl⟩
abbrev main_v78 : Ref sig .tc := ⟨.hbm, 136, rfl⟩
abbrev main_v79 : Ref sig .tc := ⟨.hbm, 137, rfl⟩
abbrev main_cst_14 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_cst_15 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_cst_16 : Ref sig .tc := ⟨.hbm, 155, rfl⟩
abbrev main_cst_17 : Ref sig .tc := ⟨.hbm, 156, rfl⟩
abbrev main_cst_18 : Ref sig .tc := ⟨.hbm, 157, rfl⟩
abbrev main_call2_v0 : Ref sig .tc := ⟨.hbm, 158, rfl⟩
abbrev main_call2_v1 : Ref sig .tc := ⟨.hbm, 159, rfl⟩
abbrev main_call2_call0_v0 : Ref sig .tc := ⟨.hbm, 160, rfl⟩
abbrev main_call2_v2 : Ref sig .tc := ⟨.hbm, 161, rfl⟩
abbrev main_call2_cst : Ref sig .tc := ⟨.hbm, 162, rfl⟩
abbrev main_call2_v3 : Ref sig .tc := ⟨.hbm, 163, rfl⟩
abbrev main_call2_v4 : Ref sig .tc := ⟨.hbm, 164, rfl⟩
abbrev main_call2_v5 : Ref sig .tc := ⟨.hbm, 165, rfl⟩
abbrev main_call2_call1_v0 : Ref sig .tc := ⟨.hbm, 166, rfl⟩
abbrev main_call2_v6 : Ref sig .tc := ⟨.hbm, 167, rfl⟩
abbrev main_call2_cst_0 : Ref sig .tc := ⟨.hbm, 168, rfl⟩
abbrev main_call2_v7 : Ref sig .tc := ⟨.hbm, 169, rfl⟩
abbrev main_call2_v8 : Ref sig .tc := ⟨.hbm, 170, rfl⟩
abbrev main_call2_v9 : Ref sig .tc := ⟨.hbm, 171, rfl⟩
abbrev main_call2_call2_v0 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_c_19 : Ref sig .tc := ⟨.hbm, 180, rfl⟩
abbrev main_v102 : Ref sig .tc := ⟨.hbm, 181, rfl⟩
abbrev main_v103 : Ref sig .tc := ⟨.hbm, 182, rfl⟩
abbrev main_c_20 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_v108 : Ref sig .tc := ⟨.hbm, 188, rfl⟩
abbrev main_c_21 : Ref sig .tc := ⟨.hbm, 189, rfl⟩
abbrev main_v109 : Ref sig .tc := ⟨.hbm, 190, rfl⟩
abbrev main_v110 : Ref sig .tc := ⟨.hbm, 191, rfl⟩
abbrev main_c_22 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_cst_23 : Ref sig .tc := ⟨.hbm, 199, rfl⟩
abbrev main_call3_cst : Ref sig .tc := ⟨.hbm, 200, rfl⟩
abbrev main_call3_v0 : Ref sig .tc := ⟨.hbm, 201, rfl⟩
abbrev main_call3_v1 : Ref sig .tc := ⟨.hbm, 202, rfl⟩
abbrev main_call3_v2 : Ref sig .tc := ⟨.hbm, 203, rfl⟩
abbrev main_call3_v3 : Ref sig .tc := ⟨.hbm, 204, rfl⟩
abbrev main_call3_v4 : Ref sig .tc := ⟨.hbm, 205, rfl⟩
abbrev main_v117 : Ref sig .tc := ⟨.hbm, 206, rfl⟩
abbrev main_v118 : Ref sig .tc := ⟨.hbm, 207, rfl⟩
abbrev main_v119 : Ref sig .tc := ⟨.hbm, 208, rfl⟩
abbrev main_v120 : Ref sig .tc := ⟨.hbm, 209, rfl⟩
abbrev main_cst_24 : Ref sig .tc := ⟨.hbm, 210, rfl⟩
abbrev main_v121 : Ref sig .tc := ⟨.hbm, 211, rfl⟩
abbrev main_v122 : Ref sig .tc := ⟨.hbm, 212, rfl⟩
abbrev main_cst_25 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩
abbrev main_c_26 : Ref sig .tc := ⟨.hbm, 217, rfl⟩
abbrev main_v126 : Ref sig .tc := ⟨.hbm, 218, rfl⟩
abbrev main_v127 : Ref sig .tc := ⟨.hbm, 219, rfl⟩
abbrev main_c_27 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_v131 : Ref sig .tc := ⟨.hbm, 224, rfl⟩
abbrev main_v132 : Ref sig .tc := ⟨.hbm, 225, rfl⟩
abbrev main_cst_28 : Ref sig .tc := ⟨.hbm, 226, rfl⟩
abbrev main_v133 : Ref sig .tc := ⟨.hbm, 227, rfl⟩
abbrev main_v134 : Ref sig .tc := ⟨.hbm, 228, rfl⟩
abbrev main_v135 : Ref sig .tc := ⟨.hbm, 229, rfl⟩
abbrev main_c_29 : Ref sig .tc := ⟨.hbm, 230, rfl⟩
abbrev main_v136 : Ref sig .tc := ⟨.hbm, 231, rfl⟩
abbrev main_v137 : Ref sig .tc := ⟨.hbm, 232, rfl⟩
abbrev main_c_30 : Ref sig .tc := ⟨.hbm, 233, rfl⟩
abbrev main_v138 : Ref sig .tc := ⟨.hbm, 234, rfl⟩
abbrev main_v139 : Ref sig .tc := ⟨.hbm, 235, rfl⟩
abbrev main_v140 : Ref sig .tc := ⟨.hbm, 236, rfl⟩
abbrev main_v141 : Ref sig .tc := ⟨.hbm, 237, rfl⟩
abbrev main_v142 : Ref sig .tc := ⟨.hbm, 238, rfl⟩
abbrev main_v143 : Ref sig .tc := ⟨.hbm, 239, rfl⟩
abbrev main_v144 : Ref sig .tc := ⟨.hbm, 240, rfl⟩
abbrev main_v145 : Ref sig .tc := ⟨.hbm, 241, rfl⟩
abbrev main_cst_31 : Ref sig .tc := ⟨.hbm, 242, rfl⟩
abbrev main_v146 : Ref sig .tc := ⟨.hbm, 243, rfl⟩
abbrev main_v147 : Ref sig .tc := ⟨.hbm, 244, rfl⟩
abbrev main_v148 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_v152 : Ref sig .tc := ⟨.hbm, 249, rfl⟩
abbrev main_call4_cst : Ref sig .tc := ⟨.hbm, 250, rfl⟩
abbrev main_call4_v0 : Ref sig .tc := ⟨.hbm, 251, rfl⟩
abbrev main_call4_v1 : Ref sig .tc := ⟨.hbm, 252, rfl⟩
abbrev main_call4_cst_0 : Ref sig .tc := ⟨.hbm, 253, rfl⟩
abbrev main_call4_v2 : Ref sig .tc := ⟨.hbm, 254, rfl⟩
abbrev main_call4_v3 : Ref sig .tc := ⟨.hbm, 255, rfl⟩
abbrev main_call4_cst_1 : Ref sig .tc := ⟨.hbm, 256, rfl⟩
abbrev main_call4_call0_v0 : Ref sig .tc := ⟨.hbm, 257, rfl⟩
abbrev main_call4_call0_v1 : Ref sig .tc := ⟨.hbm, 258, rfl⟩
abbrev main_call4_v4 : Ref sig .tc := ⟨.hbm, 259, rfl⟩
abbrev main_call4_v5 : Ref sig .tc := ⟨.hbm, 260, rfl⟩
abbrev main_call4_cst_2 : Ref sig .tc := ⟨.hbm, 261, rfl⟩
abbrev main_call4_v6 : Ref sig .tc := ⟨.hbm, 262, rfl⟩
abbrev main_call4_v7 : Ref sig .tc := ⟨.hbm, 263, rfl⟩
abbrev main_v153 : Ref sig .tc := ⟨.hbm, 264, rfl⟩
abbrev main_v154 : Ref sig .tc := ⟨.hbm, 265, rfl⟩
abbrev main_cst_32 : Ref sig .tc := ⟨.hbm, 266, rfl⟩
abbrev main_v155 : Ref sig .tc := ⟨.hbm, 267, rfl⟩
abbrev main_v156 : Ref sig .tc := ⟨.hbm, 268, rfl⟩
abbrev main_cst_33 : Ref sig .tc := ⟨.hbm, 269, rfl⟩
abbrev main_v157 : Ref sig .tc := ⟨.hbm, 270, rfl⟩
abbrev main_v158 : Ref sig .tc := ⟨.hbm, 271, rfl⟩
abbrev main_v159 : Ref sig .tc := ⟨.hbm, 272, rfl⟩
abbrev main_v160 : Ref sig .tc := ⟨.hbm, 273, rfl⟩
abbrev main_v161 : Ref sig .tc := ⟨.hbm, 274, rfl⟩
abbrev main_cst_34 : Ref sig .tc := ⟨.hbm, 275, rfl⟩
abbrev main_v162 : Ref sig .tc := ⟨.hbm, 276, rfl⟩
abbrev main_v163 : Ref sig .tc := ⟨.hbm, 277, rfl⟩
abbrev main_cst_35 : Ref sig .tc := ⟨.hbm, 278, rfl⟩
abbrev main_v164 : Ref sig .tc := ⟨.hbm, 279, rfl⟩
abbrev main_v165 : Ref sig .tc := ⟨.hbm, 280, rfl⟩
abbrev main_v166 : Ref sig .tc := ⟨.hbm, 281, rfl⟩
abbrev main_v167 : Ref sig .tc := ⟨.hbm, 282, rfl⟩
abbrev main_cst_36 : Ref sig .tc := ⟨.hbm, 283, rfl⟩
abbrev main_v168 : Ref sig .tc := ⟨.hbm, 284, rfl⟩
abbrev main_v169 : Ref sig .tc := ⟨.hbm, 285, rfl⟩
abbrev main_v170 : Ref sig .tc := ⟨.hbm, 286, rfl⟩
abbrev main_v171 : Ref sig .tc := ⟨.hbm, 287, rfl⟩
abbrev main_v172 : Ref sig .tc := ⟨.hbm, 288, rfl⟩
abbrev main_v173 : Ref sig .tc := ⟨.hbm, 289, rfl⟩
abbrev main_v174 : Ref sig .tc := ⟨.hbm, 290, rfl⟩
abbrev main_v175 : Ref sig .tc := ⟨.hbm, 291, rfl⟩
abbrev main_v176 : Ref sig .tc := ⟨.hbm, 292, rfl⟩
abbrev main_v177 : Ref sig .tc := ⟨.hbm, 293, rfl⟩
abbrev main_v178 : Ref sig .tc := ⟨.hbm, 294, rfl⟩
abbrev main_cst_37 : Ref sig .tc := ⟨.hbm, 295, rfl⟩
abbrev main_cst_38 : Ref sig .tc := ⟨.hbm, 296, rfl⟩
abbrev main_cst_39 : Ref sig .tc := ⟨.hbm, 297, rfl⟩
abbrev main_call5_v0 : Ref sig .tc := ⟨.hbm, 298, rfl⟩
abbrev main_call5_v1 : Ref sig .tc := ⟨.hbm, 299, rfl⟩
abbrev main_call5_call0_v0 : Ref sig .tc := ⟨.hbm, 300, rfl⟩
abbrev main_call5_v2 : Ref sig .tc := ⟨.hbm, 301, rfl⟩
abbrev main_call5_cst : Ref sig .tc := ⟨.hbm, 302, rfl⟩
abbrev main_call5_v3 : Ref sig .tc := ⟨.hbm, 303, rfl⟩
abbrev main_call5_v4 : Ref sig .tc := ⟨.hbm, 304, rfl⟩
abbrev main_call5_v5 : Ref sig .tc := ⟨.hbm, 305, rfl⟩
abbrev main_call5_call1_v0 : Ref sig .tc := ⟨.hbm, 306, rfl⟩
abbrev main_call5_v6 : Ref sig .tc := ⟨.hbm, 307, rfl⟩
abbrev main_call5_cst_0 : Ref sig .tc := ⟨.hbm, 308, rfl⟩
abbrev main_call5_v7 : Ref sig .tc := ⟨.hbm, 309, rfl⟩
abbrev main_call5_v8 : Ref sig .tc := ⟨.hbm, 310, rfl⟩
abbrev main_call5_v9 : Ref sig .tc := ⟨.hbm, 311, rfl⟩
abbrev main_call5_call2_v0 : Ref sig .tc := ⟨.hbm, 312, rfl⟩
abbrev main_v179 : Ref sig .tc := ⟨.hbm, 313, rfl⟩
abbrev main_v180 : Ref sig .tc := ⟨.hbm, 314, rfl⟩
abbrev main_v181 : Ref sig .tc := ⟨.hbm, 315, rfl⟩
abbrev main_v182 : Ref sig .tc := ⟨.hbm, 316, rfl⟩
abbrev main_v183 : Ref sig .tc := ⟨.hbm, 317, rfl⟩
abbrev main_v184 : Ref sig .tc := ⟨.hbm, 318, rfl⟩
abbrev main_v185 : Ref sig .tc := ⟨.hbm, 319, rfl⟩
abbrev main_c_40 : Ref sig .tc := ⟨.hbm, 320, rfl⟩
abbrev main_v186 : Ref sig .tc := ⟨.hbm, 321, rfl⟩
abbrev main_v187 : Ref sig .tc := ⟨.hbm, 322, rfl⟩
abbrev main_c_41 : Ref sig .tc := ⟨.hbm, 323, rfl⟩
abbrev main_v188 : Ref sig .tc := ⟨.hbm, 324, rfl⟩
abbrev main_v189 : Ref sig .tc := ⟨.hbm, 325, rfl⟩
abbrev main_v190 : Ref sig .tc := ⟨.hbm, 326, rfl⟩
abbrev main_v191 : Ref sig .tc := ⟨.hbm, 327, rfl⟩
abbrev main_v192 : Ref sig .tc := ⟨.hbm, 328, rfl⟩
abbrev main_c_42 : Ref sig .tc := ⟨.hbm, 329, rfl⟩
abbrev main_v193 : Ref sig .tc := ⟨.hbm, 330, rfl⟩
abbrev main_v194 : Ref sig .tc := ⟨.hbm, 331, rfl⟩
abbrev main_c_43 : Ref sig .tc := ⟨.hbm, 332, rfl⟩
abbrev main_v195 : Ref sig .tc := ⟨.hbm, 333, rfl⟩
abbrev main_v196 : Ref sig .tc := ⟨.hbm, 334, rfl⟩
abbrev main_v197 : Ref sig .tc := ⟨.hbm, 335, rfl⟩
abbrev main_v198 : Ref sig .tc := ⟨.hbm, 336, rfl⟩
abbrev main_v199 : Ref sig .tc := ⟨.hbm, 337, rfl⟩
abbrev main_v200 : Ref sig .tc := ⟨.hbm, 338, rfl⟩
abbrev main_cst_44 : Ref sig .tc := ⟨.hbm, 339, rfl⟩
abbrev main_call6_cst : Ref sig .tc := ⟨.hbm, 340, rfl⟩
abbrev main_call6_v0 : Ref sig .tc := ⟨.hbm, 341, rfl⟩
abbrev main_call6_v1 : Ref sig .tc := ⟨.hbm, 342, rfl⟩
abbrev main_call6_v2 : Ref sig .tc := ⟨.hbm, 343, rfl⟩
abbrev main_call6_v3 : Ref sig .tc := ⟨.hbm, 344, rfl⟩
abbrev main_call6_v4 : Ref sig .tc := ⟨.hbm, 345, rfl⟩
abbrev main_v201 : Ref sig .tc := ⟨.hbm, 346, rfl⟩
abbrev main_v202 : Ref sig .tc := ⟨.hbm, 347, rfl⟩
abbrev main_v203 : Ref sig .tc := ⟨.hbm, 348, rfl⟩
abbrev main_v204 : Ref sig .tc := ⟨.hbm, 349, rfl⟩
abbrev main_cst_45 : Ref sig .tc := ⟨.hbm, 350, rfl⟩
abbrev main_v205 : Ref sig .tc := ⟨.hbm, 351, rfl⟩
abbrev main_v206 : Ref sig .tc := ⟨.hbm, 352, rfl⟩
abbrev main_cst_46 : Ref sig .tc := ⟨.hbm, 353, rfl⟩
abbrev main_v207 : Ref sig .tc := ⟨.hbm, 354, rfl⟩
abbrev main_v208 : Ref sig .tc := ⟨.hbm, 355, rfl⟩
abbrev main_v209 : Ref sig .tc := ⟨.hbm, 356, rfl⟩
abbrev main_c_47 : Ref sig .tc := ⟨.hbm, 357, rfl⟩
abbrev main_v210 : Ref sig .tc := ⟨.hbm, 358, rfl⟩
abbrev main_v211 : Ref sig .tc := ⟨.hbm, 359, rfl⟩
abbrev main_c_48 : Ref sig .tc := ⟨.hbm, 360, rfl⟩
abbrev main_v212 : Ref sig .tc := ⟨.hbm, 361, rfl⟩
abbrev main_v213 : Ref sig .tc := ⟨.hbm, 362, rfl⟩
abbrev main_v214 : Ref sig .tc := ⟨.hbm, 363, rfl⟩
abbrev main_v215 : Ref sig .tc := ⟨.hbm, 364, rfl⟩
abbrev main_v216 : Ref sig .tc := ⟨.hbm, 365, rfl⟩
abbrev main_cst_49 : Ref sig .tc := ⟨.hbm, 366, rfl⟩
abbrev main_v217 : Ref sig .tc := ⟨.hbm, 367, rfl⟩
abbrev main_v218 : Ref sig .tc := ⟨.hbm, 368, rfl⟩
abbrev main_v219 : Ref sig .tc := ⟨.hbm, 369, rfl⟩
abbrev main_c_50 : Ref sig .tc := ⟨.hbm, 370, rfl⟩
abbrev main_v220 : Ref sig .tc := ⟨.hbm, 371, rfl⟩
abbrev main_v221 : Ref sig .tc := ⟨.hbm, 372, rfl⟩
abbrev main_c_51 : Ref sig .tc := ⟨.hbm, 373, rfl⟩
abbrev main_v222 : Ref sig .tc := ⟨.hbm, 374, rfl⟩
abbrev main_v223 : Ref sig .tc := ⟨.hbm, 375, rfl⟩
abbrev main_v224 : Ref sig .tc := ⟨.hbm, 376, rfl⟩
abbrev main_v225 : Ref sig .tc := ⟨.hbm, 377, rfl⟩
abbrev main_v226 : Ref sig .tc := ⟨.hbm, 378, rfl⟩
abbrev main_v227 : Ref sig .tc := ⟨.hbm, 379, rfl⟩
abbrev main_v228 : Ref sig .tc := ⟨.hbm, 380, rfl⟩
abbrev main_v229 : Ref sig .tc := ⟨.hbm, 381, rfl⟩
abbrev main_cst_52 : Ref sig .tc := ⟨.hbm, 382, rfl⟩
abbrev main_v230 : Ref sig .tc := ⟨.hbm, 383, rfl⟩
abbrev main_v231 : Ref sig .tc := ⟨.hbm, 384, rfl⟩
abbrev main_v232 : Ref sig .tc := ⟨.hbm, 385, rfl⟩
abbrev main_v233 : Ref sig .tc := ⟨.hbm, 386, rfl⟩
abbrev main_v234 : Ref sig .tc := ⟨.hbm, 387, rfl⟩
abbrev main_v235 : Ref sig .tc := ⟨.hbm, 388, rfl⟩
abbrev main_v236 : Ref sig .tc := ⟨.hbm, 389, rfl⟩
abbrev main_call7_cst : Ref sig .tc := ⟨.hbm, 390, rfl⟩
abbrev main_call7_v0 : Ref sig .tc := ⟨.hbm, 391, rfl⟩
abbrev main_call7_v1 : Ref sig .tc := ⟨.hbm, 392, rfl⟩
abbrev main_call7_cst_0 : Ref sig .tc := ⟨.hbm, 393, rfl⟩
abbrev main_call7_v2 : Ref sig .tc := ⟨.hbm, 394, rfl⟩
abbrev main_call7_v3 : Ref sig .tc := ⟨.hbm, 395, rfl⟩
abbrev main_call7_cst_1 : Ref sig .tc := ⟨.hbm, 396, rfl⟩
abbrev main_call7_call0_v0 : Ref sig .tc := ⟨.hbm, 397, rfl⟩
abbrev main_call7_call0_v1 : Ref sig .tc := ⟨.hbm, 398, rfl⟩
abbrev main_call7_v4 : Ref sig .tc := ⟨.hbm, 399, rfl⟩
abbrev main_call7_v5 : Ref sig .tc := ⟨.hbm, 400, rfl⟩
abbrev main_call7_cst_2 : Ref sig .tc := ⟨.hbm, 401, rfl⟩
abbrev main_call7_v6 : Ref sig .tc := ⟨.hbm, 402, rfl⟩
abbrev main_call7_v7 : Ref sig .tc := ⟨.hbm, 403, rfl⟩
abbrev main_v237 : Ref sig .tc := ⟨.hbm, 404, rfl⟩
abbrev main_v238 : Ref sig .tc := ⟨.hbm, 405, rfl⟩
abbrev main_cst_53 : Ref sig .tc := ⟨.hbm, 406, rfl⟩
abbrev main_v239 : Ref sig .tc := ⟨.hbm, 407, rfl⟩
abbrev main_v240 : Ref sig .tc := ⟨.hbm, 408, rfl⟩
abbrev main_cst_54 : Ref sig .tc := ⟨.hbm, 409, rfl⟩
abbrev main_v241 : Ref sig .tc := ⟨.hbm, 410, rfl⟩
abbrev main_v242 : Ref sig .tc := ⟨.hbm, 411, rfl⟩
abbrev main_v243 : Ref sig .tc := ⟨.hbm, 412, rfl⟩
abbrev main_v244 : Ref sig .tc := ⟨.hbm, 413, rfl⟩
abbrev main_v245 : Ref sig .tc := ⟨.hbm, 414, rfl⟩
abbrev main_cst_55 : Ref sig .tc := ⟨.hbm, 415, rfl⟩
abbrev main_v246 : Ref sig .tc := ⟨.hbm, 416, rfl⟩
abbrev main_v247 : Ref sig .tc := ⟨.hbm, 417, rfl⟩
abbrev main_cst_56 : Ref sig .tc := ⟨.hbm, 418, rfl⟩
abbrev main_v248 : Ref sig .tc := ⟨.hbm, 419, rfl⟩
abbrev main_v249 : Ref sig .tc := ⟨.hbm, 420, rfl⟩
abbrev main_v250 : Ref sig .tc := ⟨.hbm, 421, rfl⟩
abbrev main_v251 : Ref sig .tc := ⟨.hbm, 422, rfl⟩
abbrev main_cst_57 : Ref sig .tc := ⟨.hbm, 423, rfl⟩
abbrev main_v252 : Ref sig .tc := ⟨.hbm, 424, rfl⟩
abbrev main_v253 : Ref sig .tc := ⟨.hbm, 425, rfl⟩
abbrev main_v254 : Ref sig .tc := ⟨.hbm, 426, rfl⟩
abbrev main_v255 : Ref sig .tc := ⟨.hbm, 427, rfl⟩
abbrev main_v256 : Ref sig .tc := ⟨.hbm, 428, rfl⟩
abbrev main_v257 : Ref sig .tc := ⟨.hbm, 429, rfl⟩
abbrev main_v258 : Ref sig .tc := ⟨.hbm, 430, rfl⟩
abbrev main_v259 : Ref sig .tc := ⟨.hbm, 431, rfl⟩
abbrev main_v260 : Ref sig .tc := ⟨.hbm, 432, rfl⟩
abbrev main_v261 : Ref sig .tc := ⟨.hbm, 433, rfl⟩
abbrev main_v262 : Ref sig .tc := ⟨.hbm, 434, rfl⟩
abbrev main_cst_58 : Ref sig .tc := ⟨.hbm, 435, rfl⟩
abbrev main_cst_59 : Ref sig .tc := ⟨.hbm, 436, rfl⟩
abbrev main_cst_60 : Ref sig .tc := ⟨.hbm, 437, rfl⟩
abbrev main_call8_v0 : Ref sig .tc := ⟨.hbm, 438, rfl⟩
abbrev main_call8_v1 : Ref sig .tc := ⟨.hbm, 439, rfl⟩
abbrev main_call8_call0_v0 : Ref sig .tc := ⟨.hbm, 440, rfl⟩
abbrev main_call8_v2 : Ref sig .tc := ⟨.hbm, 441, rfl⟩
abbrev main_call8_cst : Ref sig .tc := ⟨.hbm, 442, rfl⟩
abbrev main_call8_v3 : Ref sig .tc := ⟨.hbm, 443, rfl⟩
abbrev main_call8_v4 : Ref sig .tc := ⟨.hbm, 444, rfl⟩
abbrev main_call8_v5 : Ref sig .tc := ⟨.hbm, 445, rfl⟩
abbrev main_call8_call1_v0 : Ref sig .tc := ⟨.hbm, 446, rfl⟩
abbrev main_call8_v6 : Ref sig .tc := ⟨.hbm, 447, rfl⟩
abbrev main_call8_cst_0 : Ref sig .tc := ⟨.hbm, 448, rfl⟩
abbrev main_call8_v7 : Ref sig .tc := ⟨.hbm, 449, rfl⟩
abbrev main_call8_v8 : Ref sig .tc := ⟨.hbm, 450, rfl⟩
abbrev main_call8_v9 : Ref sig .tc := ⟨.hbm, 451, rfl⟩
abbrev main_call8_call2_v0 : Ref sig .tc := ⟨.hbm, 452, rfl⟩
abbrev main_v263 : Ref sig .tc := ⟨.hbm, 453, rfl⟩

abbrev nD : Nat := 1
abbrev τ : Topo := Topo.v7x

variable {F : FTy → Type} [FloatOps F]
-- ==== Proof.Run.lean ====
/-
  The kernel's run: every buffer of the device ends as the fold of its launches and host operations leaves it.
-/
module

public import proofs.«01_k».proof.Proof.Gen.KernelIdeal.Frame

@[expose] public section

set_option maxRecDepth 16384

noncomputable section

namespace Cert.Gat.Ker

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds

variable {F : FTy → Type} [FloatOps F]

/-- The resources the run's proof speaks of. -/
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the kernel terminates with each device buffer at the contents after the last launch. -/
theorem run_contents : θ_run defs (onTc (τ := τ) (main (F := F))) ⟨m, fun _ => 0, ρ⟩
    (fun r => ∀ c : Dev nD, ∀ b ∈ Pipeline.ucRefs τ sig, r.2.mem ((c.tc : Thread nD τ).1, b) = W14 m ρ c b) :=
  Pipeline.θ_run_regions_kit_sems (pcfgs (F := F)) adm (pdats m ρ) () cellOf_inj emb₁ defs₀ 𝒱₀ L lv m ρ main (segs m ρ)
    (fun c _ => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hown; imodintro
      isplitl [Hown]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hown
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Hobs, -, Hreg, -⟩, -⟩
      imodintro
      isplitl [Hbufs]; · iexact Hbufs
      isplitl [Hreg]; · iexists _; iexact Hreg
      iexists ∅; iexact Hobs)
    (QY := fun c s => ∀ b ∈ Pipeline.ucRefs τ sig, s.mem ((c : Thread nD τ).1, b) = W14 m ρ c b)
    (hfin := fun c s' => by
      iintro ⟨⟨Hbufs, -⟩, Hstate⟩
      unfold StableHlo.held
      imodintro
      iapply (pointsTo_read_all (Pipeline.ucRefs τ sig) (fun b => ((c : Thread nD τ).1, b)) (W14 m ρ c) s')
      isplitl [Hbufs] <;> iassumption)
    (hQ := fun _ h _ => h)

end Cert.Gat.Ker

end
-- ==== Proof.Math.lean ====
/-
  The scalar mathematics of one attention layer over the extended reals, free of any program: the values of the
  constants both programs carry, the softmax division taken in or out of the sum over a node's edges, the two ways of
  writing the ELU, and the layer norm's bound: whatever its row holds, a normalised entry times a gain plus an offset with
  8·|gain| + |offset| at most one million lies between minus and plus one million, so that a clip at one million and a
  replacement of infinities by one million both leave it as it is.
-/
module

public import Idealize.ShloMosaic.PureOps.Ideal
public import Idealize.ShloMosaic.PureOps.Ideal.Laws
public import Idealize.ShloMosaic.Lib.IdealHost

@[expose] public section

noncomputable section

namespace Cert.Gat

open Idealize.ShloMosaic

/-! ## The constants -/

/-- The addend of the softmax denominators, as its bit pattern. -/
abbrev epsSoft : EReal := Ideal.ofBits .f32 0x24E69595#32
/-- The addend of the layer norm's variance, as its bit pattern. -/
abbrev epsNorm : EReal := Ideal.ofBits .f32 0x3727C5AC#32
/-- The row length 64 by which the layer norm divides, as its bit pattern. -/
abbrev width : EReal := Ideal.ofBits .f32 0x42800000#32
/-- One million, as its bit pattern. -/
abbrev million : EReal := Ideal.ofBits .f32 0x49742400#32
/-- Minus one million, as its bit pattern. -/
abbrev negMillion : EReal := Ideal.ofBits .f32 0xC9742400#32

/-- The softmax addend is a positive real. -/
theorem epsSoft_pos : ∃ r : ℝ, 0 < r ∧ epsSoft = (r : EReal) := by
  refine ⟨_, ?_, by simp [epsSoft, Ideal.ofBits, Ideal.ieee, -EReal.coe_mul]; rfl⟩
  positivity

/-- The variance addend is a positive real. -/
theorem epsNorm_pos : ∃ r : ℝ, 0 < r ∧ epsNorm = (r : EReal) := by
  refine ⟨_, ?_, by simp [epsNorm, Ideal.ofBits, Ideal.ieee, -EReal.coe_mul]; rfl⟩
  positivity

/-- The row length is the real 64. -/
theorem width_eq : width = ((64 : ℝ) : EReal) := by
  simp [width, Ideal.ofBits, Ideal.ieee, -EReal.coe_mul]; norm_num

/-- The clip's upper end is the real 1000000. -/
theorem million_eq : million = ((1000000 : ℝ) : EReal) := by
  simp [million, Ideal.ofBits, Ideal.ieee, -EReal.coe_mul]; norm_num

/-- The clip's lower end is the real -1000000. -/
theorem negMillion_eq : negMillion = ((-1000000 : ℝ) : EReal) := by
  simp [negMillion, Ideal.ofBits, Ideal.ieee, -EReal.coe_mul, -EReal.coe_neg]; norm_num

/-- The pattern of eight is the real 8. -/
theorem eight_eq : Ideal.ofBits .f32 0x41000000#32 = ((8 : ℝ) : EReal) := by
  simp [Ideal.ofBits, Ideal.ieee, -EReal.coe_mul]; norm_num

/-- The pattern of plus infinity is the top of the extended reals. -/
theorem posInf_eq : Ideal.ofBits .f32 0x7F800000#32 = ⊤ := by
  simp [Ideal.ofBits, Ideal.ieee]

/-- The pattern of minus infinity is the bottom of the extended reals. -/
theorem negInf_eq : Ideal.ofBits .f32 0xFF800000#32 = ⊥ := by
  simp [Ideal.ofBits, Ideal.ieee]

/-! ## Division by a positive denominator -/

/-- Off zero the division is the product with the inverse. -/
theorem div_of_ne {x y : EReal} (hy : y ≠ 0) : Ideal.div x y = x * y⁻¹ := if_neg hy

/-- A sum of exponentials plus the softmax addend is positive. -/
theorem denom_pos {D : EReal} (hD : 0 ≤ D) : 0 < D + epsSoft := by
  obtain ⟨r, hr, he⟩ := epsSoft_pos
  have h0 : (0 : EReal) < (r : EReal) := by exact_mod_cast hr
  rw [he]
  exact lt_of_lt_of_le h0 (le_add_of_nonneg_left hD)

/-- The inverse of a positive extended real is nonnegative and not the top. -/
theorem inv_pos_ne_top {y : EReal} (hy : 0 < y) : 0 ≤ y⁻¹ ∧ y⁻¹ ≠ ⊤ := by
  refine ⟨EReal.inv_nonneg_of_nonneg hy.le, ?_⟩
  induction y using EReal.rec with
  | bot => simp
  | top => simp
  | coe r =>
    rw [← EReal.coe_inv]
    exact EReal.coe_ne_top _

/-- A common nonnegative factor other than the top comes out of a finite sum of extended reals, whatever the terms. -/
theorem sum_mul_const {ι : Type} (s : Finset ι) (f : ι → EReal) {c : EReal} (h0 : 0 ≤ c) (ht : c ≠ ⊤) :
    ∑ e ∈ s, f e * c = (∑ e ∈ s, f e) * c := by
  classical
  induction s using Finset.induction_on with
  | empty => simp
  | insert a s ha ih =>
    rw [Finset.sum_insert ha, Finset.sum_insert ha, ih, EReal.right_distrib_of_nonneg_of_ne_top h0 ht]

/-- THE SOFTMAX DIVISION, IN OR OUT OF THE SUM: dividing every weight of a node's edges by the node's denominator and then
    summing the weighted messages is dividing the sum of the messages under the undivided weights by that denominator. -/
theorem sum_div_weights {ι : Type} (s : Finset ι) (x w : ι → EReal) {D : EReal} (hD : 0 ≤ D) :
    ∑ e ∈ s, x e * Ideal.div (w e) (D + epsSoft) = Ideal.div (∑ e ∈ s, x e * w e) (D + epsSoft) := by
  have hp := denom_pos hD
  have hi := inv_pos_ne_top hp
  rw [div_of_ne hp.ne', ← sum_mul_const s _ hi.1 hi.2]
  refine Finset.sum_congr rfl fun e _ => ?_
  rw [div_of_ne hp.ne', mul_assoc]

/-- The exponential is nonnegative. -/
theorem exp_nonneg (x : EReal) : 0 ≤ Ideal.exp x := by
  induction x using EReal.rec with
  | bot => exact le_refl _
  | top => exact le_top
  | coe r =>
    show (0 : EReal) ≤ ((Real.exp r : ℝ) : EReal)
    exact_mod_cast (Real.exp_pos r).le

/-! ## The layer norm -/

/-- The mean of a row of 64 entries. -/
def mean (t : Fin 64 → EReal) : EReal := Ideal.div (∑ k, t k) width

/-- The standard deviation of a row: the root of the mean squared deviation plus the addend. -/
def dev (t : Fin 64 → EReal) : EReal :=
  Ideal.sqrt (Ideal.div (∑ k, (t k - mean t) * (t k - mean t)) width + epsNorm)

/-- A row normalised, scaled by a gain and shifted by an offset, at one column. -/
def norm (t g b : Fin 64 → EReal) (j : Fin 64) : EReal := Ideal.div (t j - mean t) (dev t) * g j + b j

theorem width_ne : width ≠ 0 := by
  rw [width_eq]; exact_mod_cast (by norm_num : (64 : ℝ) ≠ 0)

/-- Dividing by the row length is multiplying by one sixty-fourth. -/
theorem div_width (x : EReal) : Ideal.div x width = x * ((1 / 64 : ℝ) : EReal) := by
  rw [div_of_ne width_ne, width_eq, ← EReal.coe_inv]; norm_num

/-- A row with a bottom entry sums to the bottom. -/
theorem sum_bot {t : Fin 64 → EReal} {k : Fin 64} (h : t k = ⊥) : ∑ k, t k = ⊥ := by
  rw [← Finset.add_sum_erase _ _ (Finset.mem_univ k), h, EReal.bot_add]

/-- A row without bottom entries does not sum to the bottom. -/
theorem sum_ne_bot {ι : Type} (s : Finset ι) {t : ι → EReal} (h : ∀ k, t k ≠ ⊥) : ∑ k ∈ s, t k ≠ ⊥ := by
  classical
  induction s using Finset.induction_on with
  | empty => simp
  | insert a s ha ih => rw [Finset.sum_insert ha]; exact fun e => (EReal.add_eq_bot_iff.mp e).elim (h a) ih

/-- A row with a top entry and no bottom entry sums to the top. -/
theorem sum_top {t : Fin 64 → EReal} {k : Fin 64} (hb : ∀ k, t k ≠ ⊥) (h : t k = ⊤) : ∑ k, t k = ⊤ := by
  rw [← Finset.add_sum_erase _ _ (Finset.mem_univ k), h, EReal.top_add_of_ne_bot (sum_ne_bot _ hb)]

/-- The square of a deviation is never the bottom. -/
theorem mul_self_ne_bot (x : EReal) : x * x ≠ ⊥ := by
  induction x using EReal.rec with
  | bot => simp
  | top => simp
  | coe r => rw [← EReal.coe_mul]; exact EReal.coe_ne_bot _

/-- A row with an infinite entry has the top as its standard deviation: its mean is infinite, every deviation with it. -/
theorem dev_top {t : Fin 64 → EReal} (h : ∃ k, t k = ⊥ ∨ t k = ⊤) : dev t = ⊤ := by
  obtain ⟨r, hr, he⟩ := epsNorm_pos
  have hpos : (0 : ℝ) < 1 / 64 := by norm_num
  -- every squared deviation is the top
  have hsq : ∀ k, (t k - mean t) * (t k - mean t) = ⊤ := by
    have hm : mean t = ⊥ ∨ (mean t = ⊤ ∧ ∀ k, t k ≠ ⊥) := by
      unfold mean
      rw [div_width]
      by_cases hb : ∃ k, t k = ⊥
      · obtain ⟨k, hk⟩ := hb
        left; rw [sum_bot hk, EReal.bot_mul_coe_of_pos hpos]
      · have hb' : ∀ k, t k ≠ ⊥ := fun k e => hb ⟨k, e⟩
        obtain ⟨k, hk⟩ := h
        right
        exact ⟨by rw [sum_top hb' (hk.resolve_left (hb' k)), EReal.top_mul_coe_of_pos hpos], hb'⟩
    intro k
    rcases hm with hm | ⟨hm, hb⟩
    · rw [hm]
      by_cases hk : t k = ⊥
      · rw [hk]; simp [sub_eq_add_neg]
      · rw [sub_eq_add_neg, EReal.neg_bot, EReal.add_top_of_ne_bot hk]; simp
    · rw [hm, sub_eq_add_neg, EReal.neg_top, EReal.add_bot]; simp
  unfold dev
  rw [div_width, sum_top (k := 0) (fun k => by rw [hsq k]; simp) (hsq 0), EReal.top_mul_coe_of_pos hpos, he,
    EReal.top_add_coe]
  rfl

/-- What the bound of the gain and the offset says of them: both are real, and 8·|gain| + |offset| is at most one million. -/
theorem real_of_bound {g b : EReal} (h : Ideal.ofBits .f32 0x41000000#32 * max g (-g) + max b (-b) ≤ million) :
    ∃ g' b' : ℝ, g = g' ∧ b = b' ∧ 8 * |g'| + |b'| ≤ 1000000 := by
  rw [eight_eq, million_eq] at h
  have h8 : (0 : ℝ) < 8 := by norm_num
  have habs : ∀ x : EReal, (∃ r : ℝ, x = r) ∨ max x (-x) = ⊤ := fun x => by
    induction x using EReal.rec with
    | bot => right; simp
    | top => right; simp
    | coe r => left; exact ⟨r, rfl⟩
  have hnn : ∀ x : EReal, 0 ≤ max x (-x) := fun x => by
    rcases le_total 0 x with hx | hx
    · exact le_max_of_le_left hx
    · exact le_max_of_le_right (by simpa using EReal.neg_le_neg_iff.mpr hx)
  have hcoe : ∀ r : ℝ, max (r : EReal) (-(r : EReal)) = ((|r| : ℝ) : EReal) := fun r => by
    rw [abs_eq_max_neg, ← EReal.coe_neg]; exact (EReal.coe_strictMono.monotone.map_max).symm
  rcases habs g with ⟨g', rfl⟩ | hg
  · rcases habs b with ⟨b', rfl⟩ | hb
    · refine ⟨g', b', rfl, rfl, ?_⟩
      rw [hcoe, hcoe] at h
      exact_mod_cast h
    · rw [hb, hcoe, ← EReal.coe_mul, EReal.coe_add_top] at h
      exact absurd (top_le_iff.mp h) (EReal.coe_ne_top _)
  · rw [hg, EReal.coe_mul_top_of_pos h8, EReal.top_add_of_ne_bot
      (ne_of_gt (lt_of_lt_of_le (by simp) (hnn b)))] at h
    exact absurd (top_le_iff.mp h) (EReal.coe_ne_top _)

/-- Of 64 reals, one entry's square is at most the sum of all squares; so an entry is at most eight root-mean-squares. -/
theorem abs_le_eight_dev (d : Fin 64 → ℝ) {e : ℝ} (he : 0 < e) (j : Fin 64) :
    |d j| ≤ 8 * Real.sqrt ((∑ k, d k * d k) * (1 / 64) + e) := by
  have hj : d j * d j ≤ ∑ k, d k * d k :=
    Finset.single_le_sum (f := fun k => d k * d k) (fun k _ => mul_self_nonneg (d k)) (Finset.mem_univ j)
  have h8 : (8 : ℝ) * Real.sqrt ((∑ k, d k * d k) * (1 / 64) + e) = Real.sqrt (64 * ((∑ k, d k * d k) * (1 / 64) + e)) := by
    rw [Real.sqrt_mul (by norm_num) _]
    congr 1
    rw [show (64 : ℝ) = 8 ^ 2 by norm_num, Real.sqrt_sq (by norm_num)]
  rw [h8]
  refine Real.le_sqrt_of_sq_le ?_
  rw [sq_abs]
  nlinarith

/-- The sum of reals, as extended reals, is the real sum. -/
theorem coe_sum64 (f : Fin 64 → ℝ) : ∑ k, (f k : EReal) = ((∑ k, f k : ℝ) : EReal) := by
  classical
  refine Finset.induction_on (Finset.univ : Finset (Fin 64)) (by simp) fun a s ha ih => ?_
  rw [Finset.sum_insert ha, Finset.sum_insert ha, ih, EReal.coe_add]

/-- THE LAYER NORM'S BOUND: whatever the row holds, infinities included, the normalised entry times the gain plus the
    offset lies between minus and plus one million once 8·|gain| + |offset| is at most one million. -/
theorem norm_bound (t g b : Fin 64 → EReal) (j : Fin 64)
    (h : Ideal.ofBits .f32 0x41000000#32 * max (g j) (-(g j)) + max (b j) (-(b j)) ≤ million) :
    negMillion ≤ norm t g b j ∧ norm t g b j ≤ million := by
  obtain ⟨g', b', hg, hb, hle⟩ := real_of_bound h
  unfold norm
  rw [hg, hb, million_eq, negMillion_eq]
  have hb1 := abs_le.mp (show |b'| ≤ 1000000 by nlinarith [abs_nonneg g'])
  by_cases hinf : ∃ k, t k = ⊥ ∨ t k = ⊤
  · rw [dev_top hinf, div_of_ne (by simp), EReal.inv_top, mul_zero, zero_mul, zero_add]
    exact ⟨by exact_mod_cast hb1.1, by exact_mod_cast hb1.2⟩
  · have hreal : ∀ k, ∃ r : ℝ, t k = r := fun k => by
      have hk : ¬(t k = ⊥ ∨ t k = ⊤) := fun e => hinf ⟨k, e⟩
      exact ⟨(t k).toReal, (EReal.coe_toReal (fun e => hk (Or.inr e)) (fun e => hk (Or.inl e))).symm⟩
    choose u hu using hreal
    obtain ⟨e, he, hee⟩ := epsNorm_pos
    have hm : mean t = (((∑ k, u k) * (1 / 64) : ℝ) : EReal) := by
      unfold mean
      rw [div_width, Finset.sum_congr rfl fun k _ => hu k, coe_sum64, ← EReal.coe_mul]
    generalize (∑ k, u k) * (1 / 64) = μ at hm
    have hd : ∀ k, t k - mean t = ((u k - μ : ℝ) : EReal) := fun k => by rw [hu, hm, EReal.coe_sub]
    have hS : (0 : ℝ) ≤ ∑ k, (u k - μ) * (u k - μ) := Finset.sum_nonneg fun k _ => mul_self_nonneg _
    have hs : dev t = ((Real.sqrt ((∑ k, (u k - μ) * (u k - μ)) * (1 / 64) + e) : ℝ) : EReal) := by
      unfold dev
      rw [div_width, hee, Finset.sum_congr rfl fun k _ => by rw [hd k, ← EReal.coe_mul], coe_sum64, ← EReal.coe_mul,
        ← EReal.coe_add]
      exact if_neg (not_lt.mpr (by positivity))
    have hspos : 0 < Real.sqrt ((∑ k, (u k - μ) * (u k - μ)) * (1 / 64) + e) := Real.sqrt_pos.mpr (by positivity)
    have habs := abs_le_eight_dev (fun k => u k - μ) he j
    rw [hs, hd]
    generalize Real.sqrt ((∑ k, (u k - μ) * (u k - μ)) * (1 / 64) + e) = σ at hspos habs
    rw [div_of_ne (by exact_mod_cast hspos.ne'), ← EReal.coe_inv, ← EReal.coe_mul, ← EReal.coe_mul, ← EReal.coe_add]
    have hq : |(u j - μ) * σ⁻¹| ≤ 8 := by
      rw [abs_mul, abs_of_pos (inv_pos.mpr hspos), ← div_eq_mul_inv, div_le_iff₀ hspos]
      exact habs
    have hy : |(u j - μ) * σ⁻¹ * g' + b'| ≤ 1000000 := by
      calc |(u j - μ) * σ⁻¹ * g' + b'| ≤ |(u j - μ) * σ⁻¹ * g'| + |b'| := abs_add_le _ _
        _ = |(u j - μ) * σ⁻¹| * |g'| + |b'| := by rw [abs_mul]
        _ ≤ 8 * |g'| + |b'| := by gcongr
        _ ≤ 1000000 := hle
    have := abs_le.mp hy
    exact ⟨by exact_mod_cast this.1, by exact_mod_cast this.2⟩

/-- The exponential linear unit: the value itself where positive, its exponential less one elsewhere. -/
def elu (h : EReal) : EReal := if 0 < h then h else Ideal.exp h - 1

end Cert.Gat

end
-- ==== Proof.Block.lean ====
/-
  What the kernel's bodies store, read at one element of a block of 1000 rows.
-/
module

public import proofs.«01_k».proof.Proof.Math
public import Idealize.ShloMosaic.Lib.Pointwise
public import proofs.«01_k».proof.Proof.Gen.KernelIdeal.Frame

@[expose] public section

set_option maxRecDepth 16384

noncomputable section

namespace Cert.Gat.Ker

open Idealize.ShloMosaic Idealize.ShloMosaic.TcCoe Cert.KernelIdeal Cert.KernelIdeal.Gen

/-- A number clipped to one million on either side. -/
def clip (y : EReal) : EReal := min million (max negMillion y)

/-- The column of a node's aggregate that holds the denominator of feature column `k`. -/
def denCol (k : Fin 64) : Fin 66 := ⟨64 + k.val / 32, by omega⟩

/-- The column of a node's aggregate that holds feature column `k`. -/
def numCol (k : Fin 64) : Fin 66 := ⟨k.val, by omega⟩

/-- What a layer's body normalises at a node: the ELU of the biased aggregate, plus the features the layer started from. -/
def pre (o : Fin 66 → EReal) (bias x : Fin 64 → EReal) (k : Fin 64) : EReal :=
  elu (Ideal.div (o (numCol k)) (o (denCol k) + epsSoft) + bias k) + x k

/-- A layer's features at a node. -/
def post (o : Fin 66 → EReal) (bias x g b : Fin 64 → EReal) (j : Fin 64) : EReal := clip (norm (pre o bias x) g b j)

/-- The biased product a body of the first launch stores. -/
theorem lift_block (x0 : Vec Ideal S1000x2 .f32) (x1 : Vec Ideal S2x64 .f32) (x2 : Vec Ideal S64 .f32) (p : Fin 1000) (j : Fin 64) :
    k0_pay1 x0 x1 x2 (ix2 p j) = (∑ k : Fin 2, x0 (ix2 p k) * x1 (ix2 k j)) + x2 (ix1 j) := by
  pointwise [k0_pay1]

/-- The pre-normalisation block of the second launch, as its payloads compute it. -/
theorem pre_block (a : Vec Ideal S1000x66 .f32) (bias : Vec Ideal S64 .f32) (x : Vec Ideal S1000x64 .f32) (p : Fin 1000) (k : Fin 64) :
    k1_pay4 a bias x (ix2 p k) = pre (fun c => a (ix2 p c)) (fun c => bias (ix1 c)) (fun c => x (ix2 p c)) k := by
  have hd : (if h : k.val < 32 then a (ix2 p 64) + epsSoft else a (ix2 p 65) + epsSoft) = a (ix2 p (denCol k)) + epsSoft := by
    split_ifs with h
    · rw [show denCol k = 64 from Fin.ext (by show 64 + k.val / 32 = 64; omega)]
    · rw [show denCol k = 65 from Fin.ext (by show 64 + k.val / 32 = 65; omega)]
  pointwise [k1_pay4]
  simp only [dite_eq_ite] at hd ⊢
  rw [hd]
  rfl

/-- The row means of the pre-normalisation block. -/
theorem mean_block (a : Vec Ideal S1000x66 .f32) (bias : Vec Ideal S64 .f32) (x : Vec Ideal S1000x64 .f32) (p : Fin 1000) :
    k1_pay5 a bias x (ix2 p 0) = mean fun k => k1_pay4 a bias x (ix2 p k) := by
  unfold k1_pay5
  generalize k1_pay4 a bias x = t
  pointwise! [mean]

/-- The centred block. -/
theorem centred_block (a : Vec Ideal S1000x66 .f32) (bias : Vec Ideal S64 .f32) (x : Vec Ideal S1000x64 .f32) (p : Fin 1000) (j : Fin 64) :
    k1_pay6 a bias x (ix2 p j) = k1_pay4 a bias x (ix2 p j) - mean fun k => k1_pay4 a bias x (ix2 p k) := by
  rw [← mean_block]
  pointwise! [k1_pay6]

/-- The block of square roots of the variances. -/
theorem dev_block (a : Vec Ideal S1000x66 .f32) (bias : Vec Ideal S64 .f32) (x : Vec Ideal S1000x64 .f32) (p : Fin 1000) (j : Fin 64) :
    k1_pay7 a bias x (ix2 p j) = dev fun k => k1_pay4 a bias x (ix2 p k) := by
  unfold dev
  rw [← mean_block]
  pointwise! [k1_pay7]

/-- The block a layer's body stores as the features. -/
theorem post_block (a : Vec Ideal S1000x66 .f32) (bias : Vec Ideal S64 .f32) (x : Vec Ideal S1000x64 .f32) (g b : Vec Ideal S64 .f32)
    (p : Fin 1000) (j : Fin 64) :
    k1_pay1 (k1_pay6 a bias x) (k1_pay7 a bias x) g b (ix2 p j)
      = post (fun c => a (ix2 p c)) (fun c => bias (ix1 c)) (fun c => x (ix2 p c)) (fun c => g (ix1 c)) (fun c => b (ix1 c)) j := by
  have hp : pre (fun c => a (ix2 p c)) (fun c => bias (ix1 c)) (fun c => x (ix2 p c)) = fun k => k1_pay4 a bias x (ix2 p k) :=
    funext fun k => (pre_block a bias x p k).symm
  unfold post norm
  rw [hp, ← dev_block a bias x p j]
  have hc := centred_block a bias x p j
  dsimp only at hc ⊢
  rw [← hc]
  generalize k1_pay6 a bias x = u
  generalize k1_pay7 a bias x = v
  pointwise [k1_pay1, clip]
  exact congrArg (fun y => min million (max negMillion y)) (if_neg fun h => h rfl)

/-- The block a layer's body stores as a projection of the features. -/
theorem proj_block (u v : Vec Ideal S1000x64 .f32) (g b : Vec Ideal S64 .f32) (w : Vec Ideal S64x64 .f32) (p : Fin 1000) (j : Fin 64) :
    k1_pay2 u v g b w (ix2 p j) = ∑ k : Fin 64, k1_pay1 u v g b (ix2 p k) * w (ix2 k j) := by
  unfold k1_pay2
  generalize k1_pay1 u v g b = t
  pointwise

/-- The block the first launch's body stores as a projection. -/
theorem first_proj_block (x0 : Vec Ideal S1000x2 .f32) (x1 : Vec Ideal S2x64 .f32) (x2 : Vec Ideal S64 .f32) (w : Vec Ideal S64x64 .f32)
    (p : Fin 1000) (j : Fin 64) :
    k0_pay2 x0 x1 x2 w (ix2 p j) = ∑ k : Fin 64, k0_pay1 x0 x1 x2 (ix2 p k) * w (ix2 k j) := by
  unfold k0_pay2
  generalize k0_pay1 x0 x1 x2 = t
  pointwise

end Cert.Gat.Ker

end
-- ==== Proof.Scatter.lean ====
/-
  The sum of messages into nodes (a scatter that adds, whose updates are the rows of an edge array and whose indices are
  one node number per edge) and the reading of node rows by edges (a gather), each at one element. Sizes are variables.
-/
module

public import Idealize.ShloMosaic.Lib.Pointwise
public import Idealize.ShloMosaic.Lib.Routing.OpsPair

@[expose] public section

set_option maxRecDepth 16384

noncomputable section

namespace Cert.Gat

open Idealize.ShloMosaic

/-! ## Rows of scalars -/

/-- The dimension numbers of a sum of `E` rows of `C` columns into `R` rows, one row number per update row. -/
abbrev sumRows (R C E : Nat) (wf : ScatterDims.WF ⟨2, ![R, C]⟩ ⟨2, ![E, 1]⟩ ⟨2, ![E, C]⟩ [1] [0] [0] 1) :
    ScatterDims ⟨2, ![R, C]⟩ ⟨2, ![E, 1]⟩ ⟨2, ![E, C]⟩ where
  updateWindowDims := [1]
  insertedWindowDims := [0]
  scatterDimsToOperandDims := [0]
  indexVectorDim := 1
  wf := wf

/-- The edges whose index word is the row number `r`. -/
def into {E : Nat} (idx : IVec ⟨2, ![E, 1]⟩ 32) (r : Nat) : Finset (Fin E) :=
  Finset.univ.filter fun e => (idx (ix2 e 0)).toInt = (r : Int)

/-- An update row lands on row `r` exactly when its index word is `r`, each of its columns on the column of that number. -/
theorem sumRows_lands {R C E : Nat} (wf : ScatterDims.WF ⟨2, ![R, C]⟩ ⟨2, ![E, 1]⟩ ⟨2, ![E, C]⟩ [1] [0] [0] 1)
    (idx : IVec ⟨2, ![E, 1]⟩ 32) (e : Fin E) (j : Fin C) (r : Fin R) (c : Fin C) :
    (sumRows R C E wf).resultIdx? (ix2 e j) idx = some (ix2 r c) ↔ (idx (ix2 e 0)).toInt = (r.val : Int) ∧ j = c := by
  rw [Routing.resultIdx?_eq_some]
  have h0 : (sumRows R C E wf).start (ix2 e j) idx 0 = (idx (ix2 e 0)).toInt := by
    unfold ScatterDims.start
    rw [dif_pos (List.mem_singleton.mpr rfl)]
    refine congrArg (fun i => (idx i).toInt) (funext fun b => ?_)
    match b with
    | ⟨0, _⟩ => rfl
    | ⟨1, _⟩ => rfl
  have h1 : (sumRows R C E wf).start (ix2 e j) idx 1 = 0 := rfl
  have w0 : (sumRows R C E wf).window (ix2 e j) 0 = 0 := rfl
  have w1 : (sumRows R C E wf).window (ix2 e j) 1 = j.val := rfl
  constructor
  · intro h
    have a0 := h 0
    have a1 := h 1
    rw [h0, w0] at a0
    rw [h1, w1] at a1
    refine ⟨by simpa using a0, Fin.ext ?_⟩
    have : ((0 : Int) + (j.val : Int)) = (c.val : Int) := a1
    omega
  · rintro ⟨hr, rfl⟩ a
    match a with
    | ⟨0, _⟩ => show (sumRows R C E wf).start (ix2 e j) idx 0 + ((sumRows R C E wf).window (ix2 e j) 0 : Int) = (r.val : Int)
                rw [h0, w0, hr]; simp
    | ⟨1, _⟩ => show (sumRows R C E wf).start (ix2 e j) idx 1 + ((sumRows R C E wf).window (ix2 e j) 1 : Int) = (j.val : Int)
                rw [h1, w1]; simp

/-- THE SUM OF ROWS AT ONE ELEMENT: the operand's element plus the sum, over the edges whose index is the row, of their
    updates at the column. -/
theorem sumRows_apply {R C E : Nat} (wf : ScatterDims.WF ⟨2, ![R, C]⟩ ⟨2, ![E, 1]⟩ ⟨2, ![E, C]⟩ [1] [0] [0] 1)
    (x : FVec Ideal ⟨2, ![R, C]⟩ .f32) (idx : IVec ⟨2, ![E, 1]⟩ 32) (u : FVec Ideal ⟨2, ![E, C]⟩ .f32) (r : Fin R) (c : Fin C) :
    Host.scatterAdd (F := Ideal) (sumRows R C E wf) x idx u (ix2 r c) = x (ix2 r c) + ∑ e ∈ into idx r.val, u (ix2 e c) := by
  show x (ix2 r c) + ∑ j ∈ Finset.univ.filter (fun j => (sumRows R C E wf).resultIdx? j idx = some (ix2 r c)), u j = _
  congr 1
  rw [Finset.sum_filter, sum_idx2, into, Finset.sum_filter]
  refine Finset.sum_congr rfl fun e _ => ?_
  simp only [sumRows_lands wf idx e _ r c]
  by_cases h : (idx (ix2 e 0)).toInt = (r.val : Int)
  · simp [h]
  · simp [h]

/-! ## Rows of tables -/

/-- The dimension numbers of a sum of `E` tables of `H` rows and `C` columns into `R` tables, one table number per update. -/
abbrev sumTables (R H C E : Nat) (wf : ScatterDims.WF ⟨3, ![R, H, C]⟩ ⟨2, ![E, 1]⟩ ⟨3, ![E, H, C]⟩ [1, 2] [0] [0] 1) :
    ScatterDims ⟨3, ![R, H, C]⟩ ⟨2, ![E, 1]⟩ ⟨3, ![E, H, C]⟩ where
  updateWindowDims := [1, 2]
  insertedWindowDims := [0]
  scatterDimsToOperandDims := [0]
  indexVectorDim := 1
  wf := wf

/-- An update table lands on table `r` exactly when its index word is `r`, each of its elements on the element of the same
    place. -/
theorem sumTables_lands {R H C E : Nat} (wf : ScatterDims.WF ⟨3, ![R, H, C]⟩ ⟨2, ![E, 1]⟩ ⟨3, ![E, H, C]⟩ [1, 2] [0] [0] 1)
    (idx : IVec ⟨2, ![E, 1]⟩ 32) (e : Fin E) (k : Fin H) (j : Fin C) (r : Fin R) (h : Fin H) (c : Fin C) :
    (sumTables R H C E wf).resultIdx? (ix3 e k j) idx = some (ix3 r h c)
      ↔ (idx (ix2 e 0)).toInt = (r.val : Int) ∧ k = h ∧ j = c := by
  rw [Routing.resultIdx?_eq_some]
  have h0 : (sumTables R H C E wf).start (ix3 e k j) idx 0 = (idx (ix2 e 0)).toInt := by
    unfold ScatterDims.start
    rw [dif_pos (List.mem_singleton.mpr rfl)]
    refine congrArg (fun i => (idx i).toInt) (funext fun b => ?_)
    match b with
    | ⟨0, _⟩ => rfl
    | ⟨1, _⟩ => rfl
  have h1 : (sumTables R H C E wf).start (ix3 e k j) idx 1 = 0 := rfl
  have h2 : (sumTables R H C E wf).start (ix3 e k j) idx 2 = 0 := rfl
  have w0 : (sumTables R H C E wf).window (ix3 e k j) 0 = 0 := rfl
  have w1 : (sumTables R H C E wf).window (ix3 e k j) 1 = k.val := rfl
  have w2 : (sumTables R H C E wf).window (ix3 e k j) 2 = j.val := rfl
  constructor
  · intro h'
    have a0 := h' 0
    have a1 := h' 1
    have a2 := h' 2
    rw [h0, w0] at a0
    rw [h1, w1] at a1
    rw [h2, w2] at a2
    refine ⟨by simpa using a0, Fin.ext ?_, Fin.ext ?_⟩
    · have : ((0 : Int) + (k.val : Int)) = (h.val : Int) := a1
      omega
    · have : ((0 : Int) + (j.val : Int)) = (c.val : Int) := a2
      omega
  · rintro ⟨hr, rfl, rfl⟩ a
    match a with
    | ⟨0, _⟩ => show (sumTables R H C E wf).start (ix3 e k j) idx 0 + ((sumTables R H C E wf).window (ix3 e k j) 0 : Int) = (r.val : Int)
                rw [h0, w0, hr]; simp
    | ⟨1, _⟩ => show (sumTables R H C E wf).start (ix3 e k j) idx 1 + ((sumTables R H C E wf).window (ix3 e k j) 1 : Int) = (k.val : Int)
                rw [h1, w1]; simp
    | ⟨2, _⟩ => show (sumTables R H C E wf).start (ix3 e k j) idx 2 + ((sumTables R H C E wf).window (ix3 e k j) 2 : Int) = (j.val : Int)
                rw [h2, w2]; simp

/-- THE SUM OF TABLES AT ONE ELEMENT: the operand's element plus the sum, over the edges whose index is the table's number,
    of their updates at the same place. -/
theorem sumTables_apply {R H C E : Nat} (wf : ScatterDims.WF ⟨3, ![R, H, C]⟩ ⟨2, ![E, 1]⟩ ⟨3, ![E, H, C]⟩ [1, 2] [0] [0] 1)
    (x : FVec Ideal ⟨3, ![R, H, C]⟩ .f32) (idx : IVec ⟨2, ![E, 1]⟩ 32) (u : FVec Ideal ⟨3, ![E, H, C]⟩ .f32)
    (r : Fin R) (h : Fin H) (c : Fin C) :
    Host.scatterAdd (F := Ideal) (sumTables R H C E wf) x idx u (ix3 r h c)
      = x (ix3 r h c) + ∑ e ∈ into idx r.val, u (ix3 e h c) := by
  show x (ix3 r h c) + ∑ j ∈ Finset.univ.filter (fun j => (sumTables R H C E wf).resultIdx? j idx = some (ix3 r h c)), u j = _
  congr 1
  rw [Finset.sum_filter, sum_idx3, into, Finset.sum_filter]
  refine Finset.sum_congr rfl fun e _ => ?_
  simp only [sumTables_lands wf idx e _ _ r h c]
  by_cases hr : (idx (ix2 e 0)).toInt = (r.val : Int)
  · simp only [hr, true_and, if_true]
    rw [Finset.sum_eq_single h (fun k _ hk => by simp [hk]) (by simp)]
    simp
  · simp [hr]

/-! ## Reading a node's row -/

/-- The dimension numbers of `E` reads of whole rows of an `R` by `C` table, one row number per read. -/
abbrev takeRows (R C E : Nat) (wf : GatherDims.WF ⟨2, ![R, C]⟩ ⟨2, ![E, 1]⟩ ⟨2, ![E, C]⟩ [1] [0] [] [0] [] 1 ![1, C]) :
    GatherDims ⟨2, ![R, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- A read whose index word is a row of the table gives that row. -/
theorem takeRows_apply {R C E : Nat} (wf : GatherDims.WF ⟨2, ![R, C]⟩ ⟨2, ![E, 1]⟩ ⟨2, ![E, C]⟩ [1] [0] [] [0] [] 1 ![1, C])
    (x : FVec Ideal ⟨2, ![R, C]⟩ .f32) (idx : IVec ⟨2, ![E, 1]⟩ 32) (e : Fin E) (c : Fin C) (r : Fin R)
    (h : (idx (ix2 e 0)).toInt = (r.val : Int)) :
    Host.gather (takeRows R C E wf) x idx (ix2 e c) = x (ix2 r c) := by
  unfold Host.gather
  refine congrArg x (funext fun a => Fin.ext ?_)
  have hr := r.isLt
  match a with
  | ⟨0, _⟩ =>
    show (takeRows R C E wf).start (ix2 e c) idx 0 + (takeRows R C E wf).batchCoord (ix2 e c) 0
      + (takeRows R C E wf).offCoord (ix2 e c) 0 = r.val
    have hs : (takeRows R C E wf).start (ix2 e c) idx 0 = min (idx (ix2 e 0)).toInt.toNat (R - 1) := by
      unfold GatherDims.start
      rw [dif_pos (List.mem_singleton.mpr rfl)]
      refine congrArg (fun i => min (idx i).toInt.toNat (R - 1)) (funext fun b => ?_)
      match b with
      | ⟨0, _⟩ => rfl
      | ⟨1, _⟩ => rfl
    have hb : (takeRows R C E wf).batchCoord (ix2 e c) 0 = 0 := rfl
    have ho : (takeRows R C E wf).offCoord (ix2 e c) 0 = 0 := rfl
    rw [hs, hb, ho, h]
    omega
  | ⟨1, _⟩ =>
    show (takeRows R C E wf).start (ix2 e c) idx 1 + (takeRows R C E wf).batchCoord (ix2 e c) 1
      + (takeRows R C E wf).offCoord (ix2 e c) 1 = c.val
    have hs : (takeRows R C E wf).start (ix2 e c) idx 1 = 0 := rfl
    have hb : (takeRows R C E wf).batchCoord (ix2 e c) 1 = 0 := rfl
    have ho : (takeRows R C E wf).offCoord (ix2 e c) 1 = c.val := rfl
    rw [hs, hb, ho]
    omega

end Cert.Gat

end
-- ==== Proof.RefLayer.lean ====
/-
  One layer of the reference program, over the extended reals, as functions of its arrays: the layer's composed
  operations under names, the program's result as three applications of the layer, and each piece read at one element.
-/
module

public import proofs.«01_k».proof.Proof.Math
public import proofs.«01_k».proof.Proof.Scatter
public import proofs.«01_k».proof.Proof.Gen.ReferenceIdeal.Run

@[expose] public section

set_option maxRecDepth 16384

noncomputable section

namespace Cert.Gat.Ref

open Idealize.ShloMosaic Idealize.ShloMosaic.TcCoe Cert.ReferenceIdeal Cert.ReferenceIdeal.Facts₀

/-! ## The pieces of a layer -/

/-- One node number per edge as a column. -/
def column (i : IVec S850000 32) : IVec S850000x1 32 := broadcastInDim S850000x1 ![0] bcast_S850000_S850000x1_0 i

/-- Node numbers with the number of nodes added to the negative ones, as a column. -/
def wrapped (i : IVec S850000 32) : IVec S850000x1 32 :=
  column (select (cmpi .slt i (broadcastInDim S850000 ![] bcast_S_S850000 (constantI S_ 32 0#32)))
    (addi i (broadcastInDim S850000 ![] bcast_S_S850000 (constantI S_ 32 50000#32))) i)

/-- A projection of the node features: their product with a matrix. -/
def proj (x : FVec Ideal S50000x64 .f32) (w : FVec Ideal S64x64 .f32) : FVec Ideal S50000x64 .f32 :=
  Host.dotGeneral (F := Ideal) dot_S50000x64_S64x64_S50000x64_1_0_0_1_n_n none x w

/-- The two-headed rows of a projection, one per edge, at the edges' node numbers. -/
def ends (p : FVec Ideal S50000x64 .f32) (i : IVec S850000 32) : FVec Ideal S850000x2x32 .f32 :=
  Host.gather gather_S50000x2x32_S850000x1_S850000x2x32_12_0_n_n_0_1_1232 (shapeCast S50000x2x32 p shapeCasts_S50000x64_S50000x2x32) (wrapped i)

/-- The attention weights before normalisation: exponentials of the attention logits of the edges' summed ends. -/
def weights (z : FVec Ideal S850000x2x32 .f32) (att : FVec Ideal S2x32 .f32) : FVec Ideal S850000x2 .f32 :=
  Host.exp (Host.reduceAdd (mulf (select (cmpf .oge z (broadcastInDim S850000x2x32 ![] bcast_S_S850000x2x32 (constant S_ .f32 0x00000000#32))) z
      (mulf (broadcastInDim S850000x2x32 ![] bcast_S_S850000x2x32 (id (constant S_ .f32 0x3E4CCCCD#32))) z))
    (broadcastInDim S850000x2x32 ![0, 1, 2] bcast_S1x2x32_S850000x2x32_0_1_2 (broadcastInDim S1x2x32 ![1, 2] bcast_S2x32_S1x2x32_1_2 att)))
    (constant S_ .f32 0x00000000#32) reducesTo_S850000x2x32_S850000x2_d2 h_S_)

/-- The nodes' denominators: the weights of the edges into each node, summed. -/
def denoms (a : FVec Ideal S850000x2 .f32) (dst : IVec S850000 32) : FVec Ideal S50000x2 .f32 :=
  Host.scatterAdd scatter_S50000x2_S850000x1_S850000x2_1_0_0_1 (broadcastInDim S50000x2 ![] bcast_S_S50000x2 (constant S_ .f32 0x00000000#32)) (column dst) a

/-- The weights of the edges, each over its destination's denominator. -/
def normed (a : FVec Ideal S850000x2 .f32) (dst : IVec S850000 32) : FVec Ideal S850000x2 .f32 :=
  Host.divf a (addf (Host.gather gather_S50000x2_S850000x1_S850000x2_1_0_n_n_0_1_12 (denoms a dst) (wrapped dst))
    (broadcastInDim S850000x2 ![] bcast_S_S850000x2 (constant S_ .f32 0x24E69595#32)))

/-- The aggregated messages: the edges' source rows under the normalised weights, summed into their destinations. -/
def aggregate (s : FVec Ideal S850000x2x32 .f32) (a : FVec Ideal S850000x2 .f32) (dst : IVec S850000 32) : FVec Ideal S50000x64 .f32 :=
  shapeCast S50000x64 (Host.scatterAdd scatter_S50000x2x32_S850000x1_S850000x2x32_12_0_0_1
    (broadcastInDim S50000x2x32 ![] bcast_S_S50000x2x32 (constant S_ .f32 0x00000000#32)) (column dst)
    (mulf s (broadcastInDim S850000x2x32 ![0, 1, 2] bcast_S850000x2x1_S850000x2x32_0_1_2
      (broadcastInDim S850000x2x1 ![0, 1] bcast_S850000x2_S850000x2x1_0_1 (normed a dst))))) shapeCasts_S50000x2x32_S50000x64

/-- A vector of 64 columns repeated over the nodes. -/
def rows (v : FVec Ideal S64 .f32) : FVec Ideal S50000x64 .f32 :=
  broadcastInDim S50000x64 ![0, 1] bcast_S1x64_S50000x64_0_1 (broadcastInDim S1x64 ![1] bcast_S64_S1x64_1 v)

/-- The layer's activation: the ELU of the biased messages, plus the node features the layer started from. -/
def activate (h x : FVec Ideal S50000x64 .f32) : FVec Ideal S50000x64 .f32 :=
  addf (select (cmpf .ogt h (broadcastInDim S50000x64 ![] bcast_S_S50000x64 (constant S_ .f32 0x00000000#32))) h
    (mulf (broadcastInDim S50000x64 ![] bcast_S_S50000x64 (constant S_ .f32 0x3F800000#32))
      (Host.expm1 (select (cmpf .ogt h (broadcastInDim S50000x64 ![] bcast_S_S50000x64 (constant S_ .f32 0x00000000#32)))
        (broadcastInDim S50000x64 ![] bcast_S_S50000x64 (id (constant S_ .f32 0x00000000#32))) h)))) x

/-- The rows' means, as a column. -/
def means (t : FVec Ideal S50000x64 .f32) : FVec Ideal S50000x1 .f32 :=
  Host.divf (broadcastInDim S50000x1 ![0] bcast_S50000_S50000x1_0 (Host.reduceAdd t (constant S_ .f32 0x00000000#32) reducesTo_S50000x64_S50000_d1 h_S_))
    (broadcastInDim S50000x1 ![] bcast_S_S50000x1 (constant S_ .f32 0x42800000#32))

/-- The rows less their means. -/
def centred (t : FVec Ideal S50000x64 .f32) : FVec Ideal S50000x64 .f32 :=
  subf t (broadcastInDim S50000x64 ![0, 1] bcast_S50000x1_S50000x64_0_1 (means t))

/-- The rows normalised, scaled by the gain and shifted by the offset. -/
def normalise (t : FVec Ideal S50000x64 .f32) (g b : FVec Ideal S64 .f32) : FVec Ideal S50000x64 .f32 :=
  addf (mulf (Host.divf (centred t) (broadcastInDim S50000x64 ![0, 1] bcast_S50000x1_S50000x64_0_1
    (Host.sqrt (addf (Host.divf (broadcastInDim S50000x1 ![0] bcast_S50000_S50000x1_0 (Host.reduceAdd (mulf (centred t) (centred t)) (constant S_ .f32 0x00000000#32) reducesTo_S50000x64_S50000_d1 h_S_))
        (broadcastInDim S50000x1 ![] bcast_S_S50000x1 (constant S_ .f32 0x42800000#32)))
      (broadcastInDim S50000x1 ![] bcast_S_S50000x1 (constant S_ .f32 0x3727C5AC#32)))))) (rows g)) (rows b)

/-- A not-a-number replaced by zero. -/
def replaceNan (y : FVec Ideal S50000x64 .f32) : FVec Ideal S50000x64 .f32 :=
  select (cmpf .une y y) (broadcastInDim S50000x64 ![] bcast_S_S50000x64 (id (constant S_ .f32 0x00000000#32))) y

/-- Plus infinity replaced by one million. -/
def replacePos (y : FVec Ideal S50000x64 .f32) : FVec Ideal S50000x64 .f32 :=
  select (cmpf .oeq y (broadcastInDim S50000x64 ![] bcast_S_S50000x64 (constant S_ .f32 0x7F800000#32))) (broadcastInDim S50000x64 ![] bcast_S_S50000x64 (id (constant S_ .f32 0x49742400#32))) y

/-- Minus infinity replaced by minus one million. -/
def replaceNeg (y : FVec Ideal S50000x64 .f32) : FVec Ideal S50000x64 .f32 :=
  select (cmpf .oeq y (broadcastInDim S50000x64 ![] bcast_S_S50000x64 (constant S_ .f32 0xFF800000#32))) (broadcastInDim S50000x64 ![] bcast_S_S50000x64 (id (constant S_ .f32 0xC9742400#32))) y

/-- ONE LAYER: from node features, edges, the two projections' matrices (transposed), the attention vectors, bias, gain and
    offset to node features. -/
def layer (src dst : IVec S850000 32) (x : FVec Ideal S50000x64 .f32) (wl wr : FVec Ideal S64x64 .f32) (att : FVec Ideal S2x32 .f32)
    (bias g b : FVec Ideal S64 .f32) : FVec Ideal S50000x64 .f32 :=
  replaceNeg (replacePos (replaceNan (normalise (activate (addf (aggregate (ends (proj x wl) src)
    (weights (addf (ends (proj x wl) src) (ends (proj x wr) dst)) att) dst) (rows bias)) x) g b)))

/-- A square matrix transposed. -/
def transposed (w : FVec Ideal S64x64 .f32) : FVec Ideal S64x64 .f32 := transpose S64x64 [1, 0] w transposes_S64x64_S64x64_1_0

/-- The edges' node numbers in one row of the edge list, followed by every node's own number. -/
def looped (o : Fin 2 → Nat) (e : IVec S2x800000 32) (h : S2x800000.Slices o S1x800000) : IVec S850000 32 :=
  concatenate S850000 0 [⟨S800000, shapeCast S800000 (extractStridedSlice S1x800000 o e h) shapeCasts_S1x800000_S800000⟩,
    ⟨S50000, iotaInDim S50000 32 0⟩] concatenates_S800000_S50000_S850000_d0

/-- The edges' sources. -/
def sources (e : IVec S2x800000 32) : IVec S850000 32 := looped ![0, 0] e slices_S2x800000_S1x800000_0_0
/-- The edges' destinations. -/
def targets (e : IVec S2x800000 32) : IVec S850000 32 := looped ![1, 0] e slices_S2x800000_S1x800000_1_0

/-- The input projection from the transposed matrix: the nodes' coordinates times it, plus the bias. -/
def lift (p : FVec Ideal S50000x2 .f32) (w : FVec Ideal S2x64 .f32) (b : FVec Ideal S64 .f32) : FVec Ideal S50000x64 .f32 :=
  addf (Host.dotGeneral dot_S50000x2_S2x64_S50000x64_1_0_0_1_n_n none p w) (rows b)

/-- The input projection. -/
def input (p : FVec Ideal S50000x2 .f32) (w : FVec Ideal S64x2 .f32) (b : FVec Ideal S64 .f32) : FVec Ideal S50000x64 .f32 :=
  lift p (transpose S2x64 [1, 0] w transposes_S64x2_S2x64_1_0) b

/-! ## The program's result is three layers -/

variable (V0 : Valuation τ sig (Elt Ideal))

/-- The first layer's result, as the run names it, is a layer of the input projection. -/
theorem first_eq : Value.res_main_v95 V0 = layer (sources (V0 (Proc.devRef .tc main_arg1))) (targets (V0 (Proc.devRef .tc main_arg1)))
    (input (V0 (Proc.devRef .tc main_arg0)) (V0 (Proc.devRef .tc main_arg2)) (V0 (Proc.devRef .tc main_arg3)))
    (transposed (V0 (Proc.devRef .tc main_arg4))) (transposed (V0 (Proc.devRef .tc main_arg5))) (V0 (Proc.devRef .tc main_arg6))
    (V0 (Proc.devRef .tc main_arg7)) (V0 (Proc.devRef .tc main_arg8)) (V0 (Proc.devRef .tc main_arg9)) := rfl

/-- The second layer's result is a layer of the first's. -/
theorem second_eq : Value.res_main_v179 V0 = layer (sources (V0 (Proc.devRef .tc main_arg1))) (targets (V0 (Proc.devRef .tc main_arg1)))
    (Value.res_main_v95 V0)
    (transposed (V0 (Proc.devRef .tc main_arg10))) (transposed (V0 (Proc.devRef .tc main_arg11))) (V0 (Proc.devRef .tc main_arg12))
    (V0 (Proc.devRef .tc main_arg13)) (V0 (Proc.devRef .tc main_arg14)) (V0 (Proc.devRef .tc main_arg15)) := rfl

/-- The third layer's result, the program's, is a layer of the second's. -/
theorem third_eq : replaceNeg (Value.res_main_call8_v6 V0) = layer (sources (V0 (Proc.devRef .tc main_arg1))) (targets (V0 (Proc.devRef .tc main_arg1)))
    (Value.res_main_v179 V0)
    (transposed (V0 (Proc.devRef .tc main_arg16))) (transposed (V0 (Proc.devRef .tc main_arg17))) (V0 (Proc.devRef .tc main_arg18))
    (V0 (Proc.devRef .tc main_arg19)) (V0 (Proc.devRef .tc main_arg20)) (V0 (Proc.devRef .tc main_arg21)) := rfl

end Cert.Gat.Ref

end
-- ==== Proof.RefRead.lean ====
/-
  The reference's layer read at one element.
-/
module

public import proofs.«01_k».proof.Proof.RefLayer

@[expose] public section

set_option maxRecDepth 16384

noncomputable section

namespace Cert.Gat.Ref

open Idealize.ShloMosaic Idealize.ShloMosaic.TcCoe Cert.ReferenceIdeal Cert.ReferenceIdeal.Facts₀

/-- An edge's node number in the column. -/
theorem column_apply (i : IVec S850000 32) (e : Fin 850000) : column i (ix2 e 0) = i (ix1 e) := by
  pointwise [column]

/-- A node number that is a row number is left as it is. -/
theorem wrapped_apply (i : IVec S850000 32) (e : Fin 850000) (r : Fin 50000) (h : (column i (ix2 e 0)).toInt = r.val) :
    (wrapped i (ix2 e 0)).toInt = r.val := by
  rw [column_apply] at h
  have hw : wrapped i (ix2 e 0) = i (ix1 e) := by
    pointwise [wrapped, column]
    have h0 : ¬ (i (ix1 e)).toInt < 0 := by omega
    simp [Scalar.select, IntOp.cmpi, BitVec.slt, h0]
  rw [hw, h]

/-- A node's denominator is the sum of the weights of the edges into it. -/
theorem denoms_apply (a : FVec Ideal S850000x2 .f32) (dst : IVec S850000 32) (r : Fin 50000) (h : Fin 2) :
    denoms a dst (ix2 r h) = ∑ e ∈ into (column dst) r.val, a (ix2 e h) := by
  refine (sumRows_apply (wf := _) _ (column dst) a r h).trans ?_
  pointwise

/-- A normalised weight is the weight over its destination's denominator. -/
theorem normed_apply (a : FVec Ideal S850000x2 .f32) (dst : IVec S850000 32) (e : Fin 850000) (r : Fin 50000) (h : Fin 2)
    (he : e ∈ into (column dst) r.val) :
    normed a dst (ix2 e h) = Ideal.div (a (ix2 e h)) ((∑ e ∈ into (column dst) r.val, a (ix2 e h)) + epsSoft) := by
  have hr : (column dst (ix2 e 0)).toInt = r.val := (Finset.mem_filter.mp he).2
  have hg : Host.gather gather_S50000x2_S850000x1_S850000x2_1_0_n_n_0_1_12 (denoms a dst) (wrapped dst) (ix2 e h) = denoms a dst (ix2 r h) :=
    takeRows_apply _ (denoms a dst) (wrapped dst) e h r (wrapped_apply dst e r hr)
  rw [← denoms_apply, ← hg]
  pointwise! [normed]

/-- The aggregated messages at a node and a column: the weighted sum of the edges' source rows over the weights' sum. -/
theorem aggregate_apply (s : FVec Ideal S850000x2x32 .f32) (a : FVec Ideal S850000x2 .f32) (dst : IVec S850000 32) (ha : ∀ e h, 0 ≤ a (ix2 e h))
    (r : Fin 50000) (j : Fin 64) :
    aggregate s a dst (ix2 r j) = Ideal.div
      (∑ e ∈ into (column dst) r.val, s (ix3 e ⟨j.val / 32, by omega⟩ ⟨j.val % 32, by omega⟩) * a (ix2 e ⟨j.val / 32, by omega⟩))
      ((∑ e ∈ into (column dst) r.val, a (ix2 e ⟨j.val / 32, by omega⟩)) + epsSoft) := by
  pointwise [aggregate]
  refine (sumTables_apply _ _ (column dst) _ r _ _).trans ?_
  rw [← sum_div_weights _ _ _ (Finset.sum_nonneg fun e _ => ha e _)]
  have hz : broadcastInDim S50000x2x32 ![] bcast_S_S50000x2x32 (constant (F := Ideal) S_ .f32 0x00000000#32)
      (ix3 r ⟨j.val / 32, by omega⟩ ⟨j.val % 32, by omega⟩) = 0 := by pointwise
  rw [hz, zero_add]
  refine Finset.sum_congr rfl fun e he => ?_
  rw [← normed_apply a dst e r _ he]
  pointwise

/-- The activation at an element. -/
theorem activate_apply (h x : FVec Ideal S50000x64 .f32) (r : Fin 50000) (j : Fin 64) :
    activate h x (ix2 r j) = elu (h (ix2 r j)) + x (ix2 r j) := by
  pointwise [activate]
  unfold elu
  split_ifs with hp <;> rfl

/-- A row of the normalisation. -/
theorem normalise_apply (t : FVec Ideal S50000x64 .f32) (g b : FVec Ideal S64 .f32) (r : Fin 50000) (j : Fin 64) :
    normalise t g b (ix2 r j) = norm (fun k => t (ix2 r k)) (fun k => g (ix1 k)) (fun k => b (ix1 k)) j := by
  pointwise [normalise, centred, means, rows]
  rfl

/-- An exponential of an array is nowhere negative. -/
theorem exp_at_nonneg {s : Shape} (v : FVec Ideal s .f32) (i : s.Idx) : 0 ≤ Host.exp (F := Ideal) v i := exp_nonneg _

/-- The weights are nowhere negative. -/
theorem weights_nonneg (z : FVec Ideal S850000x2x32 .f32) (att : FVec Ideal S2x32 .f32) (e : Fin 850000) (h : Fin 2) :
    0 ≤ weights z att (ix2 e h) := by
  unfold weights
  exact exp_at_nonneg _ _

/-- Where the number lies between minus and plus one million, the three replacements leave it. -/
theorem replace_apply (y : FVec Ideal S50000x64 .f32) (r : Fin 50000) (j : Fin 64) (h : negMillion ≤ y (ix2 r j) ∧ y (ix2 r j) ≤ million) :
    replaceNeg (replacePos (replaceNan y)) (ix2 r j) = y (ix2 r j) := by
  have hb : y (ix2 r j) ≠ ⊥ := fun e => by have := h.1; rw [e, negMillion_eq] at this; simp at this
  have ht : y (ix2 r j) ≠ ⊤ := fun e => by have := h.2; rw [e, million_eq] at this; simp at this
  have h1 : replaceNan y (ix2 r j) = y (ix2 r j) := by
    pointwise [replaceNan]
    exact if_neg fun hn => hn rfl
  have h2 : replacePos (replaceNan y) (ix2 r j) = y (ix2 r j) := by
    rw [← h1] at ht ⊢
    generalize replaceNan y = z at ht
    rw [← posInf_eq] at ht
    pointwise [replacePos]
    exact if_neg ht
  rw [← h2] at hb ⊢
  generalize replacePos (replaceNan y) = z at hb
  rw [← negInf_eq] at hb
  pointwise [replaceNeg]
  exact if_neg hb

/-- A projection at an element. -/
theorem proj_apply (x : FVec Ideal S50000x64 .f32) (w : FVec Ideal S64x64 .f32) (r : Fin 50000) (j : Fin 64) :
    proj x w (ix2 r j) = ∑ k : Fin 64, x (ix2 r k) * w (ix2 k j) := by
  pointwise [proj]

/-- The input projection at an element. -/
theorem lift_apply (p : FVec Ideal S50000x2 .f32) (w : FVec Ideal S2x64 .f32) (b : FVec Ideal S64 .f32) (r : Fin 50000) (j : Fin 64) :
    lift p w b (ix2 r j) = (∑ k : Fin 2, p (ix2 r k) * w (ix2 k j)) + b (ix1 j) := by
  pointwise [lift, rows]

end Cert.Gat.Ref

end
-- ==== Proof.Regions.lean ====
/-
  What each launch of the kernel leaves in its result arrays, as one function of the arrays it is entered with.
-/
module

public import proofs.«01_k».proof.Proof.Block
public import proofs.«01_k».proof.Proof.RefRead
public import Idealize.ShloMosaic.Lib.Pipeline.ValueKit

@[expose] public section

set_option maxRecDepth 16384

noncomputable section

namespace Cert.Gat.Ker

open Idealize.ShloMosaic Idealize.ShloMosaic.TcCoe Cert.KernelIdeal Cert.KernelIdeal.Gen

/-- A layer's features, from the aggregates, the bias, the features before, the gain and the offset. -/
def features (a : FVec Ideal S50000x66 .f32) (bias : FVec Ideal S64 .f32) (x : FVec Ideal S50000x64 .f32) (g b : FVec Ideal S64 .f32) :
    FVec Ideal S50000x64 .f32 := fun i =>
  post (fun c => a (ix2 (i 0) c)) (fun c => bias (ix1 c)) (fun c => x (ix2 (i 0) c)) (fun c => g (ix1 c)) (fun c => b (ix1 c)) (i 1)

/-- Row `p` of block `t`, as a row of the whole array. -/
def row (t : Nat) (ht : t < 50) (p : Fin 1000) : Fin 50000 := ⟨t * 1000 + p.val, by omega⟩

/-- A block of a layer's features, from blocks of its row-blocked arrays. -/
theorem features_block (A : FVec Ideal S50000x66 .f32) (X : FVec Ideal S50000x64 .f32) (bias g b : FVec Ideal S64 .f32)
    (a : Vec Ideal S1000x66 .f32) (x : Vec Ideal S1000x64 .f32) {t : Nat} {ht : t < 50}
    (ha : ∀ p k, a (ix2 p k) = A (ix2 (row t ht p) k)) (hx : ∀ p k, x (ix2 p k) = X (ix2 (row t ht p) k)) (p : Fin 1000) (j : Fin 64) :
    k1_pay1 (k1_pay6 a bias x) (k1_pay7 a bias x) g b (ix2 p j) = features A bias X g b (ix2 (row t ht p) j) := by
  rw [post_block]
  simp only [ha, hx]
  rfl

/-- A block of a projection of a layer's features. -/
theorem features_proj_block (A : FVec Ideal S50000x66 .f32) (X : FVec Ideal S50000x64 .f32) (bias g b : FVec Ideal S64 .f32) (w : FVec Ideal S64x64 .f32)
    (a : Vec Ideal S1000x66 .f32) (x : Vec Ideal S1000x64 .f32) {t : Nat} {ht : t < 50}
    (ha : ∀ p k, a (ix2 p k) = A (ix2 (row t ht p) k)) (hx : ∀ p k, x (ix2 p k) = X (ix2 (row t ht p) k)) (p : Fin 1000) (j : Fin 64) :
    k1_pay2 (k1_pay6 a bias x) (k1_pay7 a bias x) g b w (ix2 p j) = Ref.proj (features A bias X g b) w (ix2 (row t ht p) j) := by
  rw [proj_block]
  exact (Finset.sum_congr rfl fun k _ => by rw [features_block A X bias g b a x ha hx p k]).trans (Ref.proj_apply _ w _ j).symm

variable (V : (c : Dev nD) → (b : Ref sig .tc) → Buf (Elt Ideal) ((c : Thread nD τ).loc b)) (c : Dev nD)

/-! ## The first launch -/

/-- A block of the input projection, from a block of the coordinates. -/
theorem lift_rows (A : FVec Ideal S50000x2 .f32) (w : FVec Ideal S2x64 .f32) (bias : FVec Ideal S64 .f32) (a : Vec Ideal S1000x2 .f32)
    {t : Nat} {ht : t < 50} (ha : ∀ p k, a (ix2 p k) = A (ix2 (row t ht p) k)) (p : Fin 1000) (j : Fin 64) :
    k0_pay1 a w bias (ix2 p j) = Ref.lift A w bias (ix2 (row t ht p) j) := by
  rw [lift_block]
  refine Eq.trans ?_ (Ref.lift_apply A w bias _ j).symm
  simp only [ha]

/-- A block of a projection of the input projection. -/
theorem lift_proj_rows (A : FVec Ideal S50000x2 .f32) (w : FVec Ideal S2x64 .f32) (bias : FVec Ideal S64 .f32) (v : FVec Ideal S64x64 .f32)
    (a : Vec Ideal S1000x2 .f32) {t : Nat} {ht : t < 50} (ha : ∀ p k, a (ix2 p k) = A (ix2 (row t ht p) k)) (p : Fin 1000) (j : Fin 64) :
    k0_pay2 a w bias v (ix2 p j) = Ref.proj (Ref.lift A w bias) v (ix2 (row t ht p) j) := by
  rw [first_proj_block]
  exact (Finset.sum_congr rfl fun k _ => by rw [lift_rows A w bias a ha p k]).trans (Ref.proj_apply _ v _ j).symm

/-- The block numbers of the first launch's windows at a point. -/
theorem index0 : ∀ t : Fin cfg0.N, (win0_0.index t = ![t.val, 0] ∧ win0_1.index t = ![0, 0] ∧ win0_2.index t = ![0] ∧ win0_3.index t = ![0, 0]
    ∧ win0_4.index t = ![0, 0]) ∧ win0_5.index t = ![t.val, 0] ∧ win0_6.index t = ![t.val, 0] ∧ win0_7.index t = ![t.val, 0] :=
  (by decide +kernel : ∀ t : Fin grid0.N, _)

/-- The first launch's grid has 50 points. -/
theorem lt0 (t : Fin cfg0.N) : t.val < 50 := t.isLt

/-- A block of the coordinates is its 1000 rows of them. -/
theorem block0_0 (t : Fin cfg0.N) (p : Fin 1000) (k : Fin 2) : iblk0 V c 0 t (ix2 p k) = V c main_arg0 (ix2 (row t.val (lt0 t) p) k) := by
  unfold row
  blk_ext [iblk0, (index0 t).1.1]

/-- The input projection's matrix, whole at every point. -/
theorem block0_1 (t : Fin cfg0.N) : iblk0 V c 1 t = V c main_v7 := by
  funext k
  blk_ext [iblk0, (index0 t).1.2.1]

/-- Its bias, whole at every point. -/
theorem block0_2 (t : Fin cfg0.N) : iblk0 V c 2 t = V c main_arg3 := by
  funext k
  blk_ext [iblk0, (index0 t).1.2.2.1]

/-- The matrix of the first projection, whole at every point. -/
theorem block0_3 (t : Fin cfg0.N) : iblk0 V c 3 t = V c main_v8 := by
  funext k
  blk_ext [iblk0, (index0 t).1.2.2.2.1]

/-- The matrix of the second projection, whole at every point. -/
theorem block0_4 (t : Fin cfg0.N) : iblk0 V c 4 t = V c main_v9 := by
  funext k
  blk_ext [iblk0, (index0 t).1.2.2.2.2]

/-- The first launch leaves the input projection in window 5's array. -/
theorem result0_5 : (dat0 V c).arrAt 5 cfg0.N = Ref.lift (V c main_arg0) (V c main_v7) (V c main_arg3) := by
  refine (dat0 V c).arrAt_eq_of_covers 5 _ (by decide +kernel) fun t _ y => ?_
  blk_simp
  rw [after0_5]
  frame_out
  rw [block0_1, block0_2]
  refine (congrArg _ (eq_ix2 y)).trans ((lift_rows _ _ _ _ (block0_0 V c t) (y 0) (y 1)).trans ?_)
  unfold row
  blk_ext [(index0 t).2.1]

/-- The first launch leaves the input projection's first projection in window 6's array. -/
theorem result0_6 : (dat0 V c).arrAt 6 cfg0.N = Ref.proj (Ref.lift (V c main_arg0) (V c main_v7) (V c main_arg3)) (V c main_v8) := by
  refine (dat0 V c).arrAt_eq_of_covers 6 _ (by decide +kernel) fun t _ y => ?_
  blk_simp
  rw [after0_6]
  frame_out
  rw [block0_1, block0_2, block0_3]
  refine (congrArg _ (eq_ix2 y)).trans ((lift_proj_rows _ _ _ _ _ (block0_0 V c t) (y 0) (y 1)).trans ?_)
  unfold row
  blk_ext [(index0 t).2.2.1]

/-- The first launch leaves the input projection's second projection in window 7's array. -/
theorem result0_7 : (dat0 V c).arrAt 7 cfg0.N = Ref.proj (Ref.lift (V c main_arg0) (V c main_v7) (V c main_arg3)) (V c main_v9) := by
  refine (dat0 V c).arrAt_eq_of_covers 7 _ (by decide +kernel) fun t _ y => ?_
  blk_simp
  rw [after0_7]
  frame_out
  rw [block0_1, block0_2, block0_4]
  refine (congrArg _ (eq_ix2 y)).trans ((lift_proj_rows _ _ _ _ _ (block0_0 V c t) (y 0) (y 1)).trans ?_)
  unfold row
  blk_ext [(index0 t).2.2.2]

/-! ## The second launch -/

/-- The block numbers of the second launch's windows at a point. -/
theorem index1 : ∀ t : Fin cfg1.N, (win1_0.index t = ![t.val, 0] ∧ win1_1.index t = ![0] ∧ win1_2.index t = ![t.val, 0] ∧ win1_3.index t = ![0]
    ∧ win1_4.index t = ![0] ∧ win1_5.index t = ![0, 0] ∧ win1_6.index t = ![0, 0]) ∧ win1_7.index t = ![t.val, 0]
    ∧ win1_8.index t = ![t.val, 0] ∧ win1_9.index t = ![t.val, 0] :=
  (by decide +kernel : ∀ t : Fin grid1.N, _)

/-- The second launch's grid has 50 points. -/
theorem lt1 (t : Fin cfg1.N) : t.val < 50 := t.isLt

/-- A block of the aggregates is its 1000 rows of them. -/
theorem block1_0 (t : Fin cfg1.N) (p : Fin 1000) (k : Fin 66) : iblk1 V c 0 t (ix2 p k) = V c main_v41 (ix2 (row t.val (lt1 t) p) k) := by
  unfold row
  blk_ext [iblk1, (index1 t).1.1]

/-- A block of the features before the layer is its 1000 rows of them. -/
theorem block1_2 (t : Fin cfg1.N) (p : Fin 1000) (k : Fin 64) : iblk1 V c 2 t (ix2 p k) = V c main_v10_0 (ix2 (row t.val (lt1 t) p) k) := by
  unfold row
  blk_ext [iblk1, (index1 t).1.2.2.1]

/-- The bias, whole at every point. -/
theorem block1_1 (t : Fin cfg1.N) : iblk1 V c 1 t = V c main_arg7 := by
  funext k
  blk_ext [iblk1, (index1 t).1.2.1]

/-- The gain, whole at every point. -/
theorem block1_3 (t : Fin cfg1.N) : iblk1 V c 3 t = V c main_arg8 := by
  funext k
  blk_ext [iblk1, (index1 t).1.2.2.2.1]

/-- The offset, whole at every point. -/
theorem block1_4 (t : Fin cfg1.N) : iblk1 V c 4 t = V c main_arg9 := by
  funext k
  blk_ext [iblk1, (index1 t).1.2.2.2.2.1]

/-- The matrix of the first projection, whole at every point. -/
theorem block1_5 (t : Fin cfg1.N) : iblk1 V c 5 t = V c main_v42 := by
  funext k
  blk_ext [iblk1, (index1 t).1.2.2.2.2.2.1]

/-- The matrix of the second projection, whole at every point. -/
theorem block1_6 (t : Fin cfg1.N) : iblk1 V c 6 t = V c main_v43 := by
  funext k
  blk_ext [iblk1, (index1 t).1.2.2.2.2.2.2]

/-- The second launch leaves the features of its layer in window 7's array. -/
theorem result1_7 : (dat1 V c).arrAt 7 cfg1.N = features (V c main_v41) (V c main_arg7) (V c main_v10_0) (V c main_arg8) (V c main_arg9) := by
  refine (dat1 V c).arrAt_eq_of_covers 7 _ (by decide +kernel) fun t _ y => ?_
  blk_simp
  rw [after1_7]
  unfold_out out1_7
  frame_out
  rw [block1_1, block1_3, block1_4]
  refine (congrArg _ (eq_ix2 y)).trans ((features_block _ _ _ _ _ _ _ (block1_0 V c t) (block1_2 V c t) (y 0) (y 1)).trans ?_)
  unfold row
  blk_ext [(index1 t).2.1]

/-- The second launch leaves the first projection of the features of its layer in window 8's array. -/
theorem result1_8 : (dat1 V c).arrAt 8 cfg1.N = Ref.proj (features (V c main_v41) (V c main_arg7) (V c main_v10_0) (V c main_arg8) (V c main_arg9)) (V c main_v42) := by
  refine (dat1 V c).arrAt_eq_of_covers 8 _ (by decide +kernel) fun t _ y => ?_
  blk_simp
  rw [after1_8]
  unfold_out out1_8
  frame_out
  rw [block1_1, block1_3, block1_4, block1_5]
  refine (congrArg _ (eq_ix2 y)).trans ((features_proj_block _ _ _ _ _ _ _ _ (block1_0 V c t) (block1_2 V c t) (y 0) (y 1)).trans ?_)
  unfold row
  blk_ext [(index1 t).2.2.1]

/-- The second launch leaves the second projection of the features of its layer in window 9's array. -/
theorem result1_9 : (dat1 V c).arrAt 9 cfg1.N = Ref.proj (features (V c main_v41) (V c main_arg7) (V c main_v10_0) (V c main_arg8) (V c main_arg9)) (V c main_v43) := by
  refine (dat1 V c).arrAt_eq_of_covers 9 _ (by decide +kernel) fun t _ y => ?_
  blk_simp
  rw [after1_9]
  unfold_out out1_9
  frame_out
  rw [block1_1, block1_3, block1_4, block1_6]
  refine (congrArg _ (eq_ix2 y)).trans ((features_proj_block _ _ _ _ _ _ _ _ (block1_0 V c t) (block1_2 V c t) (y 0) (y 1)).trans ?_)
  unfold row
  blk_ext [(index1 t).2.2.2]

/-! ## The third launch -/

/-- The block numbers of the third launch's windows at a point. -/
theorem index2 : ∀ t : Fin cfg2.N, (win2_0.index t = ![t.val, 0] ∧ win2_1.index t = ![0] ∧ win2_2.index t = ![t.val, 0] ∧ win2_3.index t = ![0]
    ∧ win2_4.index t = ![0] ∧ win2_5.index t = ![0, 0] ∧ win2_6.index t = ![0, 0]) ∧ win2_7.index t = ![t.val, 0]
    ∧ win2_8.index t = ![t.val, 0] ∧ win2_9.index t = ![t.val, 0] :=
  (by decide +kernel : ∀ t : Fin grid2.N, _)

/-- The third launch's grid has 50 points. -/
theorem lt2 (t : Fin cfg2.N) : t.val < 50 := t.isLt

/-- A block of the aggregates is its 1000 rows of them. -/
theorem block2_0 (t : Fin cfg2.N) (p : Fin 1000) (k : Fin 66) : iblk2 V c 0 t (ix2 p k) = V c main_v75 (ix2 (row t.val (lt2 t) p) k) := by
  unfold row
  blk_ext [iblk2, (index2 t).1.1]

/-- A block of the features before the layer is its 1000 rows of them. -/
theorem block2_2 (t : Fin cfg2.N) (p : Fin 1000) (k : Fin 64) : iblk2 V c 2 t (ix2 p k) = V c main_v44_0 (ix2 (row t.val (lt2 t) p) k) := by
  unfold row
  blk_ext [iblk2, (index2 t).1.2.2.1]

/-- The bias, whole at every point. -/
theorem block2_1 (t : Fin cfg2.N) : iblk2 V c 1 t = V c main_arg13 := by
  funext k
  blk_ext [iblk2, (index2 t).1.2.1]

/-- The gain, whole at every point. -/
theorem block2_3 (t : Fin cfg2.N) : iblk2 V c 3 t = V c main_arg14 := by
  funext k
  blk_ext [iblk2, (index2 t).1.2.2.2.1]

/-- The offset, whole at every point. -/
theorem block2_4 (t : Fin cfg2.N) : iblk2 V c 4 t = V c main_arg15 := by
  funext k
  blk_ext [iblk2, (index2 t).1.2.2.2.2.1]

/-- The matrix of the first projection, whole at every point. -/
theorem block2_5 (t : Fin cfg2.N) : iblk2 V c 5 t = V c main_v76 := by
  funext k
  blk_ext [iblk2, (index2 t).1.2.2.2.2.2.1]

/-- The matrix of the second projection, whole at every point. -/
theorem block2_6 (t : Fin cfg2.N) : iblk2 V c 6 t = V c main_v77 := by
  funext k
  blk_ext [iblk2, (index2 t).1.2.2.2.2.2.2]

/-- The third launch leaves the features of its layer in window 7's array. -/
theorem result2_7 : (dat2 V c).arrAt 7 cfg2.N = features (V c main_v75) (V c main_arg13) (V c main_v44_0) (V c main_arg14) (V c main_arg15) := by
  refine (dat2 V c).arrAt_eq_of_covers 7 _ (by decide +kernel) fun t _ y => ?_
  blk_simp
  rw [after2_7]
  unfold_out out2_7
  frame_out
  rw [block2_1, block2_3, block2_4]
  refine (congrArg _ (eq_ix2 y)).trans ((features_block _ _ _ _ _ _ _ (block2_0 V c t) (block2_2 V c t) (y 0) (y 1)).trans ?_)
  unfold row
  blk_ext [(index2 t).2.1]

/-- The third launch leaves the first projection of the features of its layer in window 8's array. -/
theorem result2_8 : (dat2 V c).arrAt 8 cfg2.N = Ref.proj (features (V c main_v75) (V c main_arg13) (V c main_v44_0) (V c main_arg14) (V c main_arg15)) (V c main_v76) := by
  refine (dat2 V c).arrAt_eq_of_covers 8 _ (by decide +kernel) fun t _ y => ?_
  blk_simp
  rw [after2_8]
  unfold_out out2_8
  frame_out
  rw [block2_1, block2_3, block2_4, block2_5]
  refine (congrArg _ (eq_ix2 y)).trans ((features_proj_block _ _ _ _ _ _ _ _ (block2_0 V c t) (block2_2 V c t) (y 0) (y 1)).trans ?_)
  unfold row
  blk_ext [(index2 t).2.2.1]

/-- The third launch leaves the second projection of the features of its layer in window 9's array. -/
theorem result2_9 : (dat2 V c).arrAt 9 cfg2.N = Ref.proj (features (V c main_v75) (V c main_arg13) (V c main_v44_0) (V c main_arg14) (V c main_arg15)) (V c main_v77) := by
  refine (dat2 V c).arrAt_eq_of_covers 9 _ (by decide +kernel) fun t _ y => ?_
  blk_simp
  rw [after2_9]
  unfold_out out2_9
  frame_out
  rw [block2_1, block2_3, block2_4, block2_6]
  refine (congrArg _ (eq_ix2 y)).trans ((features_proj_block _ _ _ _ _ _ _ _ (block2_0 V c t) (block2_2 V c t) (y 0) (y 1)).trans ?_)
  unfold row
  blk_ext [(index2 t).2.2.2]

/-! ## The fourth launch -/

/-- The block numbers of the fourth launch's windows at a point. -/
theorem index3 : ∀ t : Fin cfg3.N, (win3_0.index t = ![t.val, 0] ∧ win3_1.index t = ![0] ∧ win3_2.index t = ![t.val, 0] ∧ win3_3.index t = ![0]
    ∧ win3_4.index t = ![0] ∧ win3_5.index t = ![0, 0] ∧ win3_6.index t = ![0, 0]) ∧ win3_7.index t = ![t.val, 0]
    ∧ win3_8.index t = ![t.val, 0] ∧ win3_9.index t = ![t.val, 0] :=
  (by decide +kernel : ∀ t : Fin grid3.N, _)

/-- The fourth launch's grid has 50 points. -/
theorem lt3 (t : Fin cfg3.N) : t.val < 50 := t.isLt

/-- A block of the aggregates is its 1000 rows of them. -/
theorem block3_0 (t : Fin cfg3.N) (p : Fin 1000) (k : Fin 66) : iblk3 V c 0 t (ix2 p k) = V c main_v109 (ix2 (row t.val (lt3 t) p) k) := by
  unfold row
  blk_ext [iblk3, (index3 t).1.1]

/-- A block of the features before the layer is its 1000 rows of them. -/
theorem block3_2 (t : Fin cfg3.N) (p : Fin 1000) (k : Fin 64) : iblk3 V c 2 t (ix2 p k) = V c main_v78_0 (ix2 (row t.val (lt3 t) p) k) := by
  unfold row
  blk_ext [iblk3, (index3 t).1.2.2.1]

/-- The bias, whole at every point. -/
theorem block3_1 (t : Fin cfg3.N) : iblk3 V c 1 t = V c main_arg19 := by
  funext k
  blk_ext [iblk3, (index3 t).1.2.1]

/-- The gain, whole at every point. -/
theorem block3_3 (t : Fin cfg3.N) : iblk3 V c 3 t = V c main_arg20 := by
  funext k
  blk_ext [iblk3, (index3 t).1.2.2.2.1]

/-- The offset, whole at every point. -/
theorem block3_4 (t : Fin cfg3.N) : iblk3 V c 4 t = V c main_arg21 := by
  funext k
  blk_ext [iblk3, (index3 t).1.2.2.2.2.1]

/-- The fourth launch leaves the features of its layer in window 7's array. -/
theorem result3_7 : (dat3 V c).arrAt 7 cfg3.N = features (V c main_v109) (V c main_arg19) (V c main_v78_0) (V c main_arg20) (V c main_arg21) := by
  refine (dat3 V c).arrAt_eq_of_covers 7 _ (by decide +kernel) fun t _ y => ?_
  blk_simp
  rw [after3_7]
  unfold_out out3_7
  frame_out
  rw [block3_1, block3_3, block3_4]
  refine (congrArg _ (eq_ix2 y)).trans ((features_block _ _ _ _ _ _ _ (block3_0 V c t) (block3_2 V c t) (y 0) (y 1)).trans ?_)
  unfold row
  blk_ext [(index3 t).2.1]

end Cert.Gat.Ker

end
-- ==== Proof.Aggregates.lean ====
/-
  The aggregates the kernel's host operations hand to a launch, as functions of the projections the last launch left, and
  read at one element.
-/
module

public import proofs.«01_k».proof.Proof.RefRead
public import proofs.«01_k».proof.Proof.Block

@[expose] public section

set_option maxRecDepth 16384

noncomputable section

namespace Cert.Gat.Ker

open Idealize.ShloMosaic Idealize.ShloMosaic.TcCoe Cert.KernelIdeal Cert.KernelIdeal.Facts₀

/-- Numerators beside denominators: 64 columns, then 2. -/
def beside (x : FVec Ideal S850000x64 .f32) (a : FVec Ideal S850000x2 .f32) : FVec Ideal S850000x66 .f32 :=
  concatenate S850000x66 1 [⟨S850000x64, x⟩, ⟨S850000x2, a⟩] concatenates_S850000x64_S850000x2_S850000x66_d1

/-- The aggregates: the edges' source rows under the weights, and the weights beside them, summed into the destinations. -/
def gathered (s : FVec Ideal S850000x2x32 .f32) (a : FVec Ideal S850000x2 .f32) (dst : IVec S850000 32) : FVec Ideal S50000x66 .f32 :=
  Host.scatterAdd scatter_S50000x66_S850000x1_S850000x66_1_0_0_1 (broadcastInDim S50000x66 ![] bcast_S_S50000x66 (constant S_ .f32 0x00000000#32))
    (broadcastInDim S850000x1 ![0] bcast_S850000_S850000x1_0 dst)
    (beside (shapeCast S850000x64 (mulf s (broadcastInDim S850000x2x32 ![0, 1, 2] bcast_S850000x2x1_S850000x2x32_0_1_2
      (broadcastInDim S850000x2x1 ![0, 1] bcast_S850000x2_S850000x2x1_0_1 a))) shapeCasts_S850000x2x32_S850000x64) a)

/-- The aggregates of a layer from the two projections, the edges and the attention vectors. -/
def aggregates (p q : FVec Ideal S50000x64 .f32) (src dst : IVec S850000 32) (att : FVec Ideal S2x32 .f32) : FVec Ideal S50000x66 .f32 :=
  gathered (Ref.ends p src) (Ref.weights (addf (Ref.ends p src) (Ref.ends q dst)) att) dst

/-- A numerator column of the aggregates at a node: the weighted sum of the source rows of the edges into it. -/
theorem gathered_num (s : FVec Ideal S850000x2x32 .f32) (a : FVec Ideal S850000x2 .f32) (dst : IVec S850000 32) (r : Fin 50000) (j : Fin 64) :
    gathered s a dst (ix2 r (numCol j)) = ∑ e ∈ into (Ref.column dst) r.val,
      s (ix3 e ⟨j.val / 32, by omega⟩ ⟨j.val % 32, by omega⟩) * a (ix2 e ⟨j.val / 32, by omega⟩) := by
  refine (sumRows_apply _ _ (Ref.column dst) _ r (numCol j)).trans ?_
  unfold numCol
  pointwise [beside]

/-- A denominator column of the aggregates at a node: the sum of the weights of the edges into it. -/
theorem gathered_den (s : FVec Ideal S850000x2x32 .f32) (a : FVec Ideal S850000x2 .f32) (dst : IVec S850000 32) (r : Fin 50000) (j : Fin 64) :
    gathered s a dst (ix2 r (denCol j)) = ∑ e ∈ into (Ref.column dst) r.val, a (ix2 e ⟨j.val / 32, by omega⟩) := by
  refine (sumRows_apply _ _ (Ref.column dst) _ r (denCol j)).trans ?_
  unfold denCol
  pointwise [beside]

end Cert.Gat.Ker

end
-- ==== Proof.Layer.lean ====
/-
  The kernel's layer is the reference's layer.
-/
module

public import proofs.«01_k».proof.Proof.Regions
public import proofs.«01_k».proof.Proof.Aggregates

@[expose] public section

set_option maxRecDepth 16384

noncomputable section

namespace Cert.Gat

open Idealize.ShloMosaic Idealize.ShloMosaic.TcCoe Cert.KernelIdeal

/-- One layer of the kernel: the features a launch stores from the aggregates handed to it. -/
def Ker.layer (src dst : IVec S850000 32) (x : FVec Ideal S50000x64 .f32) (wl wr : FVec Ideal S64x64 .f32) (att : FVec Ideal S2x32 .f32)
    (bias g b : FVec Ideal S64 .f32) : FVec Ideal S50000x64 .f32 :=
  Ker.features (Ker.aggregates (Ref.proj x wl) (Ref.proj x wr) src dst att) bias x g b

/-- Eight times the gain's magnitude plus the offset's is at most one million in every column. -/
def Within (g b : FVec Ideal S64 .f32) : Prop :=
  ∀ j : Fin 64, Ideal.ofBits .f32 0x41000000#32 * max (g (ix1 j)) (-(g (ix1 j))) + max (b (ix1 j)) (-(b (ix1 j))) ≤ million

/-- A number between minus and plus one million is its own clip. -/
theorem clip_eq {y : EReal} (h : negMillion ≤ y ∧ y ≤ million) : Ker.clip y = y := by
  unfold Ker.clip
  rw [max_eq_right h.1, min_eq_right h.2]

/-- The vector of 64 columns repeated over the nodes, at an element. -/
theorem rows_apply (v : FVec Ideal S64 .f32) (r : Fin 50000) (j : Fin 64) : Ref.rows v (ix2 r j) = v (ix1 j) := by
  pointwise [Ref.rows]

/-- The two quotients: the reference's aggregated messages are the kernel's numerators over its denominators. -/
theorem quotient_eq (s : FVec Ideal S850000x2x32 .f32) (a : FVec Ideal S850000x2 .f32) (dst : IVec S850000 32) (ha : ∀ e h, 0 ≤ a (ix2 e h))
    (r : Fin 50000) (j : Fin 64) :
    Ideal.div (Ker.gathered s a dst (ix2 r (Ker.numCol j))) (Ker.gathered s a dst (ix2 r (Ker.denCol j)) + epsSoft)
      = Ref.aggregate s a dst (ix2 r j) := by
  rw [Ker.gathered_num, Ker.gathered_den]
  exact (Ref.aggregate_apply s a dst ha r j).symm

/-- What the kernel normalises is what the reference normalises. -/
theorem pre_eq (s : FVec Ideal S850000x2x32 .f32) (a : FVec Ideal S850000x2 .f32) (dst : IVec S850000 32) (ha : ∀ e h, 0 ≤ a (ix2 e h))
    (bias : FVec Ideal S64 .f32) (x : FVec Ideal S50000x64 .f32) (r : Fin 50000) :
    Ker.pre (fun c => Ker.gathered s a dst (ix2 r c)) (fun c => bias (ix1 c)) (fun c => x (ix2 r c))
      = fun k => Ref.activate (addf (Ref.aggregate s a dst) (Ref.rows bias)) x (ix2 r k) := by
  funext k
  refine Eq.trans ?_ (Ref.activate_apply _ x r k).symm
  unfold Ker.pre
  rw [quotient_eq s a dst ha r k]
  show elu (Ref.aggregate s a dst (ix2 r k) + bias (ix1 k)) + x (ix2 r k) = _
  rw [← rows_apply bias r k]
  rfl

/-- A LAYER: where the gain and the offset keep the normalised rows within one million, the two programs' layers agree. -/
theorem layer_eq (src dst : IVec S850000 32) (x : FVec Ideal S50000x64 .f32) (wl wr : FVec Ideal S64x64 .f32) (att : FVec Ideal S2x32 .f32)
    (bias g b : FVec Ideal S64 .f32) (h : Within g b) :
    Ker.layer src dst x wl wr att bias g b = Ref.layer src dst x wl wr att bias g b := by
  funext i
  obtain ⟨r, j, rfl⟩ : ∃ (r : Fin 50000) (j : Fin 64), i = ix2 r j := ⟨i 0, i 1, eq_ix2 i⟩
  unfold Ref.layer Ker.layer Ker.aggregates
  have ha := Ref.weights_nonneg (addf (Ref.ends (Ref.proj x wl) src) (Ref.ends (Ref.proj x wr) dst)) att
  generalize Ref.weights (addf (Ref.ends (Ref.proj x wl) src) (Ref.ends (Ref.proj x wr) dst)) att = a at ha
  generalize Ref.ends (Ref.proj x wl) src = s
  have hp := pre_eq s a dst ha bias x r
  generalize Ref.activate (addf (Ref.aggregate s a dst) (Ref.rows bias)) x = t at hp
  have hn := Ref.normalise_apply t g b r j
  have hb := norm_bound (fun k => t (ix2 r k)) (fun k => g (ix1 k)) (fun k => b (ix1 k)) j (h j)
  rw [Ref.replace_apply _ r j (by rw [hn]; exact hb), hn]
  show Ker.clip (norm (Ker.pre (fun c => Ker.gathered s a dst (ix2 r c)) (fun c => bias (ix1 c)) (fun c => x (ix2 r c))) _ _ j) = _
  rw [hp]
  exact clip_eq hb

end Cert.Gat

end
-- ==== Proof.Host.lean ====
/-
  What the kernel's host operations between two launches hand to the next launch.
-/
module

public import proofs.«01_k».proof.Proof.Aggregates
public import Idealize.ShloMosaic.Lib.StableHlo.RunRead

@[expose] public section

set_option maxRecDepth 16384

noncomputable section

namespace Cert.Gat.Ker

open Idealize.ShloMosaic Idealize.ShloMosaic.TcCoe Cert.KernelIdeal Cert.KernelIdeal.Facts₀
open Cert.KernelIdeal.Gen (hostOps0 hostOps1 hostOps1_1 hostOps1_2 hostOps2 hostOps2_1 hostOps2_2 hostOps3 hostOps3_1 hostOps3_2)

variable (V : Valuation τ sig (Elt Ideal))

/-- Before the first launch: the edges' sources. -/
theorem sources_read : StableHlo.after hostOps0 V (Proc.devRef .tc main_v3) = Ref.sources (V (Proc.devRef .tc main_arg1)) := by
  after_reads_simp
  rfl

/-- Before the first launch: the edges' destinations. -/
theorem targets_read : StableHlo.after hostOps0 V (Proc.devRef .tc main_v6) = Ref.targets (V (Proc.devRef .tc main_arg1)) := by
  after_reads_simp
  rfl

/-- Before the first launch: the input projection's matrix, transposed. -/
theorem lift_matrix_read : StableHlo.after hostOps0 V (Proc.devRef .tc main_v7)
    = transpose S2x64 [1, 0] (V (Proc.devRef .tc main_arg2)) transposes_S64x2_S2x64_1_0 := by
  after_reads_simp

/-- Before the first launch: the first layer's first matrix, transposed. -/
theorem left_read0 : StableHlo.after hostOps0 V (Proc.devRef .tc main_v8) = Ref.transposed (V (Proc.devRef .tc main_arg4)) := by
  after_reads_simp
  rfl

/-- Before the first launch: the first layer's second matrix, transposed. -/
theorem right_read0 : StableHlo.after hostOps0 V (Proc.devRef .tc main_v9) = Ref.transposed (V (Proc.devRef .tc main_arg5)) := by
  after_reads_simp
  rfl

/-- The aggregates handed to the second launch. -/
theorem handed1 : StableHlo.after hostOps1_2 (StableHlo.after hostOps1_1 (StableHlo.after hostOps1 V)) (Proc.devRef .tc main_v41)
    = aggregates (V (Proc.devRef .tc main_v10_1)) (V (Proc.devRef .tc main_v10_2)) (V (Proc.devRef .tc main_v3)) (V (Proc.devRef .tc main_v6))
      (V (Proc.devRef .tc main_arg6)) := by
  after_reads_simp
  show Host.scatterAdd _ _ _ (beside _ _) = _
  after_reads_simp
  rfl

/-- Before the second launch: the next layer's first matrix, transposed. -/
theorem left_read1 : StableHlo.after hostOps1_2 (StableHlo.after hostOps1_1 (StableHlo.after hostOps1 V)) (Proc.devRef .tc main_v42) = Ref.transposed (V (Proc.devRef .tc main_arg10)) := by
  after_reads_simp
  rfl

/-- Before the second launch: the next layer's second matrix, transposed. -/
theorem right_read1 : StableHlo.after hostOps1_2 (StableHlo.after hostOps1_1 (StableHlo.after hostOps1 V)) (Proc.devRef .tc main_v43) = Ref.transposed (V (Proc.devRef .tc main_arg11)) := by
  after_reads_simp
  rfl

/-- The aggregates handed to the third launch. -/
theorem handed2 : StableHlo.after hostOps2_2 (StableHlo.after hostOps2_1 (StableHlo.after hostOps2 V)) (Proc.devRef .tc main_v75)
    = aggregates (V (Proc.devRef .tc main_v44_1)) (V (Proc.devRef .tc main_v44_2)) (V (Proc.devRef .tc main_v3)) (V (Proc.devRef .tc main_v6))
      (V (Proc.devRef .tc main_arg12)) := by
  after_reads_simp
  show Host.scatterAdd _ _ _ (beside _ _) = _
  after_reads_simp
  rfl

/-- Before the third launch: the next layer's first matrix, transposed. -/
theorem left_read2 : StableHlo.after hostOps2_2 (StableHlo.after hostOps2_1 (StableHlo.after hostOps2 V)) (Proc.devRef .tc main_v76) = Ref.transposed (V (Proc.devRef .tc main_arg16)) := by
  after_reads_simp
  rfl

/-- Before the third launch: the next layer's second matrix, transposed. -/
theorem right_read2 : StableHlo.after hostOps2_2 (StableHlo.after hostOps2_1 (StableHlo.after hostOps2 V)) (Proc.devRef .tc main_v77) = Ref.transposed (V (Proc.devRef .tc main_arg17)) := by
  after_reads_simp
  rfl

/-- The aggregates handed to the fourth launch. -/
theorem handed3 : StableHlo.after hostOps3_2 (StableHlo.after hostOps3_1 (StableHlo.after hostOps3 V)) (Proc.devRef .tc main_v109)
    = aggregates (V (Proc.devRef .tc main_v78_1)) (V (Proc.devRef .tc main_v78_2)) (V (Proc.devRef .tc main_v3)) (V (Proc.devRef .tc main_v6))
      (V (Proc.devRef .tc main_arg18)) := by
  after_reads_simp
  show Host.scatterAdd _ _ _ (beside _ _) = _
  after_reads_simp
  rfl

end Cert.Gat.Ker

end
-- ==== Proof.KernelValue.lean ====
/-
  The kernel's result array: three layers of the input projection.
-/
module

public import proofs.«01_k».proof.Proof.Layer
public import proofs.«01_k».proof.Proof.Host

@[expose] public section

set_option maxRecDepth 16384

noncomputable section

namespace Cert.Gat.Ker

open Idealize.ShloMosaic Idealize.ShloMosaic.TcCoe Cert.KernelIdeal Cert.KernelIdeal.Gen

variable (m : (ℓ : Loc nD τ sig) → Buf (Elt Ideal) ℓ) (ρ : Dev nD → PrngReg) (c : Dev nD)

/-- An array of the launch, as the device reads it. -/
abbrev arg (b : Ref sig .tc) : Buf (Elt Ideal) ((c.tc : Thread nD τ).loc b) := m ((c.tc : Thread nD τ).loc b)

/-- The features the layers start from. -/
def start : FVec Ideal S50000x64 .f32 := Ref.input (arg m c main_arg0) (arg m c main_arg2) (arg m c main_arg3)

/-- The features after the first layer. -/
def once : FVec Ideal S50000x64 .f32 := layer (Ref.sources (arg m c main_arg1)) (Ref.targets (arg m c main_arg1)) (start m c)
  (Ref.transposed (arg m c main_arg4)) (Ref.transposed (arg m c main_arg5)) (arg m c main_arg6) (arg m c main_arg7) (arg m c main_arg8) (arg m c main_arg9)

/-- The features after the second layer. -/
def twice : FVec Ideal S50000x64 .f32 := layer (Ref.sources (arg m c main_arg1)) (Ref.targets (arg m c main_arg1)) (once m c)
  (Ref.transposed (arg m c main_arg10)) (Ref.transposed (arg m c main_arg11)) (arg m c main_arg12) (arg m c main_arg13) (arg m c main_arg14) (arg m c main_arg15)

/-- The features after the third layer. -/
def thrice : FVec Ideal S50000x64 .f32 := layer (Ref.sources (arg m c main_arg1)) (Ref.targets (arg m c main_arg1)) (twice m c)
  (Ref.transposed (arg m c main_arg16)) (Ref.transposed (arg m c main_arg17)) (arg m c main_arg18) (arg m c main_arg19) (arg m c main_arg20) (arg m c main_arg21)

/-! ## The buffers that pass through unchanged -/

/-- A buffer the host operations before the second launch do not write. -/
theorem keep1 (r : Ref sig .tc) (h : r ∉ hostOps1_W ∧ r ∉ hostOps1_1_W ∧ r ∉ hostOps1_2_W) : W5 m ρ c (Proc.devRef .tc r) = W2 m ρ c (Proc.devRef .tc r) :=
  (W5_of m ρ c r h.2.2).trans ((W4_of m ρ c r h.2.1).trans (W3_of m ρ c r h.1))

/-- A buffer the host operations before the third launch do not write. -/
theorem keep2 (r : Ref sig .tc) (h : r ∉ hostOps2_W ∧ r ∉ hostOps2_1_W ∧ r ∉ hostOps2_2_W) : W9 m ρ c (Proc.devRef .tc r) = W6 m ρ c (Proc.devRef .tc r) :=
  (W9_of m ρ c r h.2.2).trans ((W8_of m ρ c r h.2.1).trans (W7_of m ρ c r h.1))

/-- A buffer the host operations before the fourth launch do not write. -/
theorem keep3 (r : Ref sig .tc) (h : r ∉ hostOps3_W ∧ r ∉ hostOps3_1_W ∧ r ∉ hostOps3_2_W) : W13 m ρ c (Proc.devRef .tc r) = W10 m ρ c (Proc.devRef .tc r) :=
  (W13_of m ρ c r h.2.2).trans ((W12_of m ρ c r h.2.1).trans (W11_of m ρ c r h.1))

/-- The edges' sources after the first launch. -/
theorem src2 : W2 m ρ c (Proc.devRef .tc main_v3) = Ref.sources (arg m c main_arg1) :=
  (W2_of m ρ c main_v3 (by decide)).trans (sources_read (W0 m ρ c))

/-- The edges' destinations after the first launch. -/
theorem dst2 : W2 m ρ c (Proc.devRef .tc main_v6) = Ref.targets (arg m c main_arg1) :=
  (W2_of m ρ c main_v6 (by decide)).trans (targets_read (W0 m ρ c))

/-- The edges' sources after the second launch. -/
theorem src6 : W6 m ρ c (Proc.devRef .tc main_v3) = Ref.sources (arg m c main_arg1) :=
  (W6_of m ρ c main_v3 (by decide)).trans ((keep1 m ρ c main_v3 (by decide)).trans (src2 m ρ c))

/-- The edges' destinations after the second launch. -/
theorem dst6 : W6 m ρ c (Proc.devRef .tc main_v6) = Ref.targets (arg m c main_arg1) :=
  (W6_of m ρ c main_v6 (by decide)).trans ((keep1 m ρ c main_v6 (by decide)).trans (dst2 m ρ c))

/-- The edges' sources after the third launch. -/
theorem src10 : W10 m ρ c (Proc.devRef .tc main_v3) = Ref.sources (arg m c main_arg1) :=
  (W10_of m ρ c main_v3 (by decide)).trans ((keep2 m ρ c main_v3 (by decide)).trans (src6 m ρ c))

/-- The edges' destinations after the third launch. -/
theorem dst10 : W10 m ρ c (Proc.devRef .tc main_v6) = Ref.targets (arg m c main_arg1) :=
  (W10_of m ρ c main_v6 (by decide)).trans ((keep2 m ρ c main_v6 (by decide)).trans (dst6 m ρ c))

/-! ## The first launch -/

/-- The arrays the first launch's results are functions of. -/
theorem entry0 : V1 m ρ c main_arg0 = arg m c main_arg0 ∧ V1 m ρ c main_v7 = transpose S2x64 [1, 0] (arg m c main_arg2) Facts₀.transposes_S64x2_S2x64_1_0
    ∧ V1 m ρ c main_arg3 = arg m c main_arg3 ∧ V1 m ρ c main_v8 = Ref.transposed (arg m c main_arg4) ∧ V1 m ρ c main_v9 = Ref.transposed (arg m c main_arg5) :=
  ⟨W1_args m ρ c main_arg0 (by decide), lift_matrix_read (W0 m ρ c), W1_args m ρ c main_arg3 (by decide), left_read0 (W0 m ρ c), right_read0 (W0 m ρ c)⟩

/-- The features the layers start from. -/
theorem feat2 : W2 m ρ c (Proc.devRef .tc main_v10_0) = start m c := by
  obtain ⟨e0, e1, e2, -, -⟩ := entry0 m ρ c
  refine (W2_arr m ρ c 5).trans ((result0_5 (V1 m ρ) c).trans ?_)
  rw [e0, e1, e2]
  rfl

/-- Their first projection. -/
theorem left2 : W2 m ρ c (Proc.devRef .tc main_v10_1) = Ref.proj (start m c) (Ref.transposed (arg m c main_arg4)) := by
  obtain ⟨e0, e1, e2, e3, -⟩ := entry0 m ρ c
  refine (W2_arr m ρ c 6).trans ((result0_6 (V1 m ρ) c).trans ?_)
  rw [e0, e1, e2, e3]
  rfl

/-- Their second projection. -/
theorem right2 : W2 m ρ c (Proc.devRef .tc main_v10_2) = Ref.proj (start m c) (Ref.transposed (arg m c main_arg5)) := by
  obtain ⟨e0, e1, e2, -, e4⟩ := entry0 m ρ c
  refine (W2_arr m ρ c 7).trans ((result0_7 (V1 m ρ) c).trans ?_)
  rw [e0, e1, e2, e4]
  rfl

/-! ## The second launch -/

/-- The aggregates the second launch is entered with. -/
theorem agg5 : W5 m ρ c (Proc.devRef .tc main_v41) = aggregates (Ref.proj (start m c) (Ref.transposed (arg m c main_arg4)))
    (Ref.proj (start m c) (Ref.transposed (arg m c main_arg5))) (Ref.sources (arg m c main_arg1)) (Ref.targets (arg m c main_arg1)) (arg m c main_arg6) := by
  refine (handed1 (W2 m ρ c)).trans ?_
  rw [left2, right2, src2, dst2, W2_args m ρ c main_arg6 (by decide)]

/-- The layer's features, from what the launch is entered with. -/
theorem layer5 : features (V5 m ρ c main_v41) (V5 m ρ c main_arg7) (V5 m ρ c main_v10_0) (V5 m ρ c main_arg8) (V5 m ρ c main_arg9) = once m c := by
  have ea : V5 m ρ c main_v41 = _ := agg5 m ρ c
  have ex : V5 m ρ c main_v10_0 = start m c := (keep1 m ρ c main_v10_0 (by decide)).trans (feat2 m ρ c)
  have e1 : V5 m ρ c main_arg7 = arg m c main_arg7 := W5_args m ρ c main_arg7 (by decide)
  have e2 : V5 m ρ c main_arg8 = arg m c main_arg8 := W5_args m ρ c main_arg8 (by decide)
  have e3 : V5 m ρ c main_arg9 = arg m c main_arg9 := W5_args m ρ c main_arg9 (by decide)
  rw [ea, ex, e1, e2, e3]
  rfl

/-- The features it leaves. -/
theorem feat6 : W6 m ρ c (Proc.devRef .tc main_v44_0) = once m c :=
  (W6_arr m ρ c 7).trans ((result1_7 (V5 m ρ) c).trans (layer5 m ρ c))

/-- Their first projection. -/
theorem left6 : W6 m ρ c (Proc.devRef .tc main_v44_1) = Ref.proj (once m c) (Ref.transposed (arg m c main_arg10)) := by
  refine (W6_arr m ρ c 8).trans ((result1_8 (V5 m ρ) c).trans ?_)
  have em : V5 m ρ c main_v42 = Ref.transposed (arg m c main_arg10) :=
    (left_read1 (W2 m ρ c)).trans (congrArg Ref.transposed (W2_args m ρ c main_arg10 (by decide)))
  rw [layer5, em]

/-- Their second projection. -/
theorem right6 : W6 m ρ c (Proc.devRef .tc main_v44_2) = Ref.proj (once m c) (Ref.transposed (arg m c main_arg11)) := by
  refine (W6_arr m ρ c 9).trans ((result1_9 (V5 m ρ) c).trans ?_)
  have em : V5 m ρ c main_v43 = Ref.transposed (arg m c main_arg11) :=
    (right_read1 (W2 m ρ c)).trans (congrArg Ref.transposed (W2_args m ρ c main_arg11 (by decide)))
  rw [layer5, em]

/-! ## The third launch -/

/-- The aggregates the third launch is entered with. -/
theorem agg9 : W9 m ρ c (Proc.devRef .tc main_v75) = aggregates (Ref.proj (once m c) (Ref.transposed (arg m c main_arg10)))
    (Ref.proj (once m c) (Ref.transposed (arg m c main_arg11))) (Ref.sources (arg m c main_arg1)) (Ref.targets (arg m c main_arg1)) (arg m c main_arg12) := by
  refine (handed2 (W6 m ρ c)).trans ?_
  rw [left6, right6, src6, dst6, W6_args m ρ c main_arg12 (by decide)]

/-- The layer's features, from what the launch is entered with. -/
theorem layer9 : features (V9 m ρ c main_v75) (V9 m ρ c main_arg13) (V9 m ρ c main_v44_0) (V9 m ρ c main_arg14) (V9 m ρ c main_arg15) = twice m c := by
  have ea : V9 m ρ c main_v75 = _ := agg9 m ρ c
  have ex : V9 m ρ c main_v44_0 = once m c := (keep2 m ρ c main_v44_0 (by decide)).trans (feat6 m ρ c)
  have e1 : V9 m ρ c main_arg13 = arg m c main_arg13 := W9_args m ρ c main_arg13 (by decide)
  have e2 : V9 m ρ c main_arg14 = arg m c main_arg14 := W9_args m ρ c main_arg14 (by decide)
  have e3 : V9 m ρ c main_arg15 = arg m c main_arg15 := W9_args m ρ c main_arg15 (by decide)
  rw [ea, ex, e1, e2, e3]
  rfl

/-- The features it leaves. -/
theorem feat10 : W10 m ρ c (Proc.devRef .tc main_v78_0) = twice m c :=
  (W10_arr m ρ c 7).trans ((result2_7 (V9 m ρ) c).trans (layer9 m ρ c))

/-- Their first projection. -/
theorem left10 : W10 m ρ c (Proc.devRef .tc main_v78_1) = Ref.proj (twice m c) (Ref.transposed (arg m c main_arg16)) := by
  refine (W10_arr m ρ c 8).trans ((result2_8 (V9 m ρ) c).trans ?_)
  have em : V9 m ρ c main_v76 = Ref.transposed (arg m c main_arg16) :=
    (left_read2 (W6 m ρ c)).trans (congrArg Ref.transposed (W6_args m ρ c main_arg16 (by decide)))
  rw [layer9, em]

/-- Their second projection. -/
theorem right10 : W10 m ρ c (Proc.devRef .tc main_v78_2) = Ref.proj (twice m c) (Ref.transposed (arg m c main_arg17)) := by
  refine (W10_arr m ρ c 9).trans ((result2_9 (V9 m ρ) c).trans ?_)
  have em : V9 m ρ c main_v77 = Ref.transposed (arg m c main_arg17) :=
    (right_read2 (W6 m ρ c)).trans (congrArg Ref.transposed (W6_args m ρ c main_arg17 (by decide)))
  rw [layer9, em]

/-! ## The fourth launch -/

/-- The aggregates the fourth launch is entered with. -/
theorem agg13 : W13 m ρ c (Proc.devRef .tc main_v109) = aggregates (Ref.proj (twice m c) (Ref.transposed (arg m c main_arg16)))
    (Ref.proj (twice m c) (Ref.transposed (arg m c main_arg17))) (Ref.sources (arg m c main_arg1)) (Ref.targets (arg m c main_arg1)) (arg m c main_arg18) := by
  refine (handed3 (W10 m ρ c)).trans ?_
  rw [left10, right10, src10, dst10, W10_args m ρ c main_arg18 (by decide)]

/-- The layer's features, from what the launch is entered with. -/
theorem layer13 : features (V13 m ρ c main_v109) (V13 m ρ c main_arg19) (V13 m ρ c main_v78_0) (V13 m ρ c main_arg20) (V13 m ρ c main_arg21) = thrice m c := by
  have ea : V13 m ρ c main_v109 = _ := agg13 m ρ c
  have ex : V13 m ρ c main_v78_0 = twice m c := (keep3 m ρ c main_v78_0 (by decide)).trans (feat10 m ρ c)
  have e1 : V13 m ρ c main_arg19 = arg m c main_arg19 := W13_args m ρ c main_arg19 (by decide)
  have e2 : V13 m ρ c main_arg20 = arg m c main_arg20 := W13_args m ρ c main_arg20 (by decide)
  have e3 : V13 m ρ c main_arg21 = arg m c main_arg21 := W13_args m ρ c main_arg21 (by decide)
  rw [ea, ex, e1, e2, e3]
  rfl

/-- The features it leaves. -/
theorem feat14 : W14 m ρ c (Proc.devRef .tc main_v122_0) = thrice m c :=
  (W14_arr m ρ c 7).trans ((result3_7 (V13 m ρ) c).trans (layer13 m ρ c))

end Cert.Gat.Ker

end
-- ==== Proof.Result.lean ====
/-
  The precondition, read as a bound on every layer's gain and offset, and the two programs' results compared under it.
-/
module

public import proofs.«01_k».proof.Defs
public import proofs.«01_k».proof.Proof.KernelValue

@[expose] public section

set_option maxRecDepth 16384

noncomputable section

namespace Cert.Gat

open Idealize.ShloMosaic Idealize.ShloMosaic.TcCoe Idealize.ShloMosaic.StableHlo

/-! ## The precondition -/

/-- The comparison the precondition makes of a layer's gain and offset: eight times the gain's size and the offset's size stay within one million. -/
def bounded (h : Cert.Pre_affine_within_clip.S_.BroadcastsInDim Cert.Pre_affine_within_clip.S64 ![]) (g b : FVec Ideal Cert.KernelIdeal.S64 .f32) :
    IVec Cert.KernelIdeal.S64 1 :=
  cmpf .ole (addf (mulf (broadcastInDim Cert.Pre_affine_within_clip.S64 ![] h (constant Cert.Pre_affine_within_clip.S_ .f32 0x41000000#32)) (Host.absf g)) (Host.absf b))
    (broadcastInDim Cert.Pre_affine_within_clip.S64 ![] h (constant Cert.Pre_affine_within_clip.S_ .f32 0x49742400#32))

/-- Where that comparison is one everywhere, the gain and offset are within the clip. -/
theorem within_of_bounded (h : Cert.Pre_affine_within_clip.S_.BroadcastsInDim Cert.Pre_affine_within_clip.S64 ![]) (g b : FVec Ideal Cert.KernelIdeal.S64 .f32)
    (hb : bounded h g b = fun _ => 1#1) : Within g b := by
  intro j
  have hj := congrFun hb (ix1 j)
  unfold bounded at hj
  simp only [cmpf, addf, mulf, broadcastInDim, constant, Host.absf] at hj
  by_contra hn
  rw [show million = Ideal.ofBits .f32 0x49742400#32 from rfl] at hn
  have : (0#1 : BitVec 1) = 1#1 := by
    rw [← hj]
    exact (congrArg BitVec.ofBool (decide_eq_false hn)).symm
  exact absurd this (by decide)

variable [Cert.Pre_affine_within_clip.Facts]

/-- The precondition bounds the first layer's gain and offset. -/
theorem within_first (m : (ℓ : Loc Cert.KernelIdeal.nD Cert.KernelIdeal.τ Cert.KernelIdeal.sig) → Buf (Elt Ideal) ℓ) (hp : Cert.Pre_KernelIdeal_affine_within_clip m)
    (c : Dev Cert.KernelIdeal.nD) : Within (Ker.arg m c Cert.KernelIdeal.main_arg8) (Ker.arg m c Cert.KernelIdeal.main_arg9) :=
  within_of_bounded Cert.Pre_affine_within_clip.Facts.bcast_S_S64 _ _ (hp c).1

/-- The precondition bounds the second layer's gain and offset. -/
theorem within_second (m : (ℓ : Loc Cert.KernelIdeal.nD Cert.KernelIdeal.τ Cert.KernelIdeal.sig) → Buf (Elt Ideal) ℓ) (hp : Cert.Pre_KernelIdeal_affine_within_clip m)
    (c : Dev Cert.KernelIdeal.nD) : Within (Ker.arg m c Cert.KernelIdeal.main_arg14) (Ker.arg m c Cert.KernelIdeal.main_arg15) :=
  within_of_bounded Cert.Pre_affine_within_clip.Facts.bcast_S_S64 _ _ (hp c).2.1

/-- The precondition bounds the third layer's gain and offset. -/
theorem within_third (m : (ℓ : Loc Cert.KernelIdeal.nD Cert.KernelIdeal.τ Cert.KernelIdeal.sig) → Buf (Elt Ideal) ℓ) (hp : Cert.Pre_KernelIdeal_affine_within_clip m)
    (c : Dev Cert.KernelIdeal.nD) : Within (Ker.arg m c Cert.KernelIdeal.main_arg20) (Ker.arg m c Cert.KernelIdeal.main_arg21) :=
  within_of_bounded Cert.Pre_affine_within_clip.Facts.bcast_S_S64 _ _ (hp c).2.2

/-! ## The two results -/

/-- On agreeing arguments within the clip, the reference's result array is the kernel's: each of its three layers is the kernel's. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hp : Cert.Pre_KernelIdeal_affine_within_clip m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) :
    Ref.replaceNeg (Cert.ReferenceIdeal.Value.res_main_call8_v6 (launchContents m' c)) = Ker.thrice m c := by
  rw [Ref.third_eq, Ref.second_eq, Ref.first_eq]
  unfold Ker.thrice
  rw [layer_eq _ _ _ _ _ _ _ _ _ (within_third m hp c)]
  unfold Ker.twice
  rw [layer_eq _ _ _ _ _ _ _ _ _ (within_second m hp c)]
  unfold Ker.once
  rw [layer_eq _ _ _ _ _ _ _ _ _ (within_first m hp c)]
  unfold Ker.start Ker.arg
  rw [← h0, ← h1, ← h2, ← h3, ← h4, ← h5, ← h6, ← h7, ← h8, ← h9, ← h10, ← h11, ← h12, ← h13, ← h14, ← h15, ← h16, ← h17, ← h18, ← h19, ← h20, ← h21]

end Cert.Gat

end
-- ==== Proof.lean ====
/-
  The claim assembled: the three programs' frames, and, where every layer's gain and offset are within the clip,
  that the kernel and the reference leave the same result array.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import Idealize.ShloMosaic.Lib.Quiescent
public import proofs.«01_k».proof.Proof.Run
public import proofs.«01_k».proof.Proof.Result

@[expose] public section

set_option maxRecDepth 16384

noncomputable section

namespace Cert.Proof

open Idealize.ShloMosaic Idealize.SL.Sem

/-- The one shape fact the precondition states: a scalar spreads over a vector of 64. -/
theorem scalar_spreads : Cert.Pre_affine_within_clip.Facts where
  bcast_S_S64 := by decide

/-- The reference's frame: it terminates, leaves its arguments as they were and has no semaphore to leave raised. -/
theorem reference_frame : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run m ρ)

/-- The kernel's run, read at the result and at the arguments: the result array is three layers of the input projection, the arguments are unchanged. -/
theorem kernel_result (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r =>
      ∀ c : Dev Cert.KernelIdeal.nD, r.2.mem ((c.tc : Thread Cert.KernelIdeal.nD Cert.KernelIdeal.τ).loc Cert.KernelIdeal.main_v122_0) = Cert.Gat.Ker.thrice m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
        ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
        ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
        ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
        ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
        ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
        ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
        ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
        ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)) :=
  (θ_run Cert.KernelIdeal.defs _ _).mono
    (fun r h c => ⟨(h c _ (Cert.KernelIdeal.Gen.mem_uc Cert.KernelIdeal.main_v122_0 (by decide))).trans (Cert.Gat.Ker.feat14 m ρ c),
      (h c _ (Cert.KernelIdeal.Gen.mem_uc Cert.KernelIdeal.main_arg0 (by decide))).trans (Cert.KernelIdeal.Gen.W14_main_arg0 m ρ c),
      (h c _ (Cert.KernelIdeal.Gen.mem_uc Cert.KernelIdeal.main_arg1 (by decide))).trans (Cert.KernelIdeal.Gen.W14_main_arg1 m ρ c),
      (h c _ (Cert.KernelIdeal.Gen.mem_uc Cert.KernelIdeal.main_arg2 (by decide))).trans (Cert.KernelIdeal.Gen.W14_main_arg2 m ρ c),
      (h c _ (Cert.KernelIdeal.Gen.mem_uc Cert.KernelIdeal.main_arg3 (by decide))).trans (Cert.KernelIdeal.Gen.W14_main_arg3 m ρ c),
      (h c _ (Cert.KernelIdeal.Gen.mem_uc Cert.KernelIdeal.main_arg4 (by decide))).trans (Cert.KernelIdeal.Gen.W14_main_arg4 m ρ c),
      (h c _ (Cert.KernelIdeal.Gen.mem_uc Cert.KernelIdeal.main_arg5 (by decide))).trans (Cert.KernelIdeal.Gen.W14_main_arg5 m ρ c),
      (h c _ (Cert.KernelIdeal.Gen.mem_uc Cert.KernelIdeal.main_arg6 (by decide))).trans (Cert.KernelIdeal.Gen.W14_main_arg6 m ρ c),
      (h c _ (Cert.KernelIdeal.Gen.mem_uc Cert.KernelIdeal.main_arg7 (by decide))).trans (Cert.KernelIdeal.Gen.W14_main_arg7 m ρ c),
      (h c _ (Cert.KernelIdeal.Gen.mem_uc Cert.KernelIdeal.main_arg8 (by decide))).trans (Cert.KernelIdeal.Gen.W14_main_arg8 m ρ c),
      (h c _ (Cert.KernelIdeal.Gen.mem_uc Cert.KernelIdeal.main_arg9 (by decide))).trans (Cert.KernelIdeal.Gen.W14_main_arg9 m ρ c),
      (h c _ (Cert.KernelIdeal.Gen.mem_uc Cert.KernelIdeal.main_arg10 (by decide))).trans (Cert.KernelIdeal.Gen.W14_main_arg10 m ρ c),
      (h c _ (Cert.KernelIdeal.Gen.mem_uc Cert.KernelIdeal.main_arg11 (by decide))).trans (Cert.KernelIdeal.Gen.W14_main_arg11 m ρ c),
      (h c _ (Cert.KernelIdeal.Gen.mem_uc Cert.KernelIdeal.main_arg12 (by decide))).trans (Cert.KernelIdeal.Gen.W14_main_arg12 m ρ c),
      (h c _ (Cert.KernelIdeal.Gen.mem_uc Cert.KernelIdeal.main_arg13 (by decide))).trans (Cert.KernelIdeal.Gen.W14_main_arg13 m ρ c),
      (h c _ (Cert.KernelIdeal.Gen.mem_uc Cert.KernelIdeal.main_arg14 (by decide))).trans (Cert.KernelIdeal.Gen.W14_main_arg14 m ρ c),
      (h c _ (Cert.KernelIdeal.Gen.mem_uc Cert.KernelIdeal.main_arg15 (by decide))).trans (Cert.KernelIdeal.Gen.W14_main_arg15 m ρ c),
      (h c _ (Cert.KernelIdeal.Gen.mem_uc Cert.KernelIdeal.main_arg16 (by decide))).trans (Cert.KernelIdeal.Gen.W14_main_arg16 m ρ c),
      (h c _ (Cert.KernelIdeal.Gen.mem_uc Cert.KernelIdeal.main_arg17 (by decide))).trans (Cert.KernelIdeal.Gen.W14_main_arg17 m ρ c),
      (h c _ (Cert.KernelIdeal.Gen.mem_uc Cert.KernelIdeal.main_arg18 (by decide))).trans (Cert.KernelIdeal.Gen.W14_main_arg18 m ρ c),
      (h c _ (Cert.KernelIdeal.Gen.mem_uc Cert.KernelIdeal.main_arg19 (by decide))).trans (Cert.KernelIdeal.Gen.W14_main_arg19 m ρ c),
      (h c _ (Cert.KernelIdeal.Gen.mem_uc Cert.KernelIdeal.main_arg20 (by decide))).trans (Cert.KernelIdeal.Gen.W14_main_arg20 m ρ c),
      (h c _ (Cert.KernelIdeal.Gen.mem_uc Cert.KernelIdeal.main_arg21 (by decide))).trans (Cert.KernelIdeal.Gen.W14_main_arg21 m ρ c)⟩)
    (Cert.Gat.Ker.run_contents m ρ)

/-- Where every layer's gain and offset are within the clip, the kernel and the reference leave the same result array. -/
theorem same_result : Cert.algebraic_KernelIdeal_ReferenceIdeal_pre_affine_within_clip (hKernelIdeal := Cert.KernelIdeal.Gen.facts)
    (hReferenceIdeal := Cert.ReferenceIdeal.Gen.facts) (hPre_affine_within_clip := scalar_spreads) := fun m g m' g' hp ha =>
  ⟨Cert.Gat.Ker.thrice m, kernel_result m g,
    (θ_run Cert.ReferenceIdeal.defs _ _).mono
      (fun r h c => by
        obtain ⟨h0, h1, h2, h3, h4, h5, h6, h7, h8, h9, h10, h11, h12, h13, h14, h15, h16, h17, h18, h19, h20, h21⟩ := ha c
        haveI := scalar_spreads
        exact ⟨(h c).1.trans (Cert.Gat.result_eq m m' c hp h0 h1 h2 h3 h4 h5 h6 h7 h8 h9 h10 h11 h12 h13 h14 h15 h16 h17 h18 h19 h20 h21), (h c).2⟩)
      (Cert.ReferenceIdeal.Value.run m' g')⟩

/-- The claim: three frames (the last two also under the precondition), the idealization's preservation and the equality of results. -/
theorem claim : Cert.Claim :=
  ⟨Cert.Kernel.Gen.facts, Cert.KernelIdeal.Gen.facts, Cert.ReferenceIdeal.Gen.facts, scalar_spreads,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    same_result⟩

end Cert.Proof

end
